-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v299) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v320) = v0 c
          ∧ r.2.mem ((c.tc : Thread Cert.Reference2Ideal.nD Cert.Reference2Ideal.τ).loc Cert.Reference2Ideal.main_v299) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_bounded : Cert.Pre_bounded.Facts) (hPre_finite : Cert.Pre_finite.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_Kernel2_Kernel2Ideal
    ∧ algebraic_Kernel2Ideal_Reference2Ideal_pre_finite (hKernel2Ideal := hKernel2Ideal) (hReference2Ideal := hReference2Ideal) (hPre_finite := hPre_finite)
-- ==== Pre_bounded.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)

variable [Facts]

def fn {F : FTy → Type} [FloatOps F] (main_arg0 : FVec F S128x100000 .f32) : IVec S128x100000 1 :=
  let main_v0 : FVec F S128x100000 .f32 := Host.absf main_arg0
  let main_cst : FVec F S_ .f32 := constant S_ .f32 0x42200000#32
  let main_v1 : FVec F S128x100000 .f32 := broadcastInDim S128x100000 ![] bcast_S_S128x100000 main_cst
  let main_v2 : IVec S128x100000 1 := cmpf .ole main_v0 main_v1
  main_v2
-- ==== Pre_finite.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)

variable [Facts]

def fn {F : FTy → Type} [FloatOps F] (main_arg0 : FVec F S128x100000 .f32) : IVec S128x100000 1 :=
  let main_v0 : FVec F S128x100000 .f32 := Host.absf main_arg0
  let main_cst : FVec F S_ .f32 := constant S_ .f32 0x7F7FFFFF#32
  let main_v1 : FVec F S128x100000 .f32 := broadcastInDim S128x100000 ![] bcast_S_S128x100000 main_cst
  let main_v2 : IVec S128x100000 1 := cmpf .ole main_v0 main_v1
  main_v2
-- ==== Kernel.lean ====
abbrev S128x100000 : Shape := ⟨2, ![128, 100000]⟩
abbrev S8x100000 : Shape := ⟨2, ![8, 100000]⟩
abbrev S8 : Shape := ⟨1, ![8]⟩
abbrev S8x1 : Shape := ⟨2, ![8, 1]⟩

abbrev nBuf : Space → Nat
  | .hbm => 2
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 385
  | .vmem => 0
  | .smem => 0
  | _ => 0

abbrev hbmTy0_0 (i : Nat) : BufTy := match i % 128 with
  | 0 => ⟨S128x100000, .f32⟩
  | 1 => ⟨S_, .f32⟩
  | 2 => ⟨S128, .f32⟩
  | 3 => ⟨S128x1, .f32⟩
  | 4 => ⟨S128x100000, .f32⟩
  | 5 => ⟨S128x100000, .f32⟩
  | 6 => ⟨S128x100000, .f32⟩
  | 7 => ⟨S_, .f32⟩
  | 8 => ⟨S128, .f32⟩
  | 9 => ⟨S128x1, .f32⟩
  | 10 => ⟨S128x1, .f32⟩
  | 11 => ⟨S128x100000, .f32⟩
  | 12 => ⟨S128x100000, .f32⟩
  | 13 => ⟨S_, .f32⟩
  | 14 => ⟨S128x100000, .f32⟩
  | 15 => ⟨S_, .f32⟩
  | 16 => ⟨S128x100000, .f32⟩
  | 17 => ⟨S_, .f32⟩
  | 18 => ⟨S128x100000, .f32⟩
  | 19 => ⟨S128x100000, .f32⟩
  | 20 => ⟨S_, .f32⟩
  | 21 => ⟨S128x100000, .f32⟩
  | 22 => ⟨S128x100000, .f32⟩
  | 23 => ⟨S128x100000, .f32⟩
  | 24 => ⟨S128x100000, .f32⟩
  | 25 => ⟨S_, .f32⟩
  | 26 => ⟨S128, .f32⟩
  | 27 => ⟨S_, .f32⟩
  | 28 => ⟨S128, .f32⟩
  | 29 => ⟨S128, .f32⟩
  | 30 => ⟨S128x1, .f32⟩
  | 31 => ⟨S128x100000, .f32⟩
  | 32 => ⟨S128x100000, .f32⟩
  | 33 => ⟨S128x100000, .f32⟩
  | 34 => ⟨S_, .f32⟩
  | 35 => ⟨S128, .f32⟩
  | 36 => ⟨S128x1, .f32⟩
  | 37 => ⟨S128x100000, .f32⟩
  | 38 => ⟨S128x100000, .f32⟩
  | 39 => ⟨S128x100000, .f32⟩
  | 40 => ⟨S_, .f32⟩
  | 41 => ⟨S128x100000, .f32⟩
  | 42 => ⟨S128x100000, .f32⟩
  | 43 => ⟨S_, .f32⟩
  | 44 => ⟨S128x100000, .f32⟩
  | 45 => ⟨S128x100000, .f32⟩
  | 46 => ⟨S128x100000, .f32⟩
  | 47 => ⟨S128x100000, .f32⟩
  | 48 => ⟨S_, .f32⟩
  | 49 => ⟨S128, .f32⟩
  | 50 => ⟨S_, .f32⟩
  | 51 => ⟨S128, .f32⟩
  | 52 => ⟨S128, .f32⟩
  | 53 => ⟨S128x1, .f32⟩
  | 54 => ⟨S128x100000, .f32⟩
  | 55 => ⟨S128x100000, .f32⟩
  | 56 => ⟨S128x100000, .f32⟩
  | 57 => ⟨S_, .f32⟩
  | 58 => ⟨S128, .f32⟩
  | 59 => ⟨S128x1, .f32⟩
  | 60 => ⟨S128x100000, .f32⟩
  | 61 => ⟨S128x100000, .f32⟩
  | 62 => ⟨S128x100000, .f32⟩
  | 63 => ⟨S_, .f32⟩
  | 64 => ⟨S128x100000, .f32⟩
  | 65 => ⟨S128x100000, .f32⟩
  | 66 => ⟨S_, .f32⟩
  | 67 => ⟨S128x100000, .f32⟩
  | 68 => ⟨S128x100000, .f32⟩
  | 69 => ⟨S128x100000, .f32⟩
  | 70 => ⟨S128x100000, .f32⟩
  | 71 => ⟨S_, .f32⟩
  | 72 => ⟨S128, .f32⟩
  | 73 => ⟨S_, .f32⟩
  | 74 => ⟨S128, .f32⟩
  | 75 => ⟨S128, .f32⟩
  | 76 => ⟨S128x1, .f32⟩
  | 77 => ⟨S128x100000, .f32⟩
  | 78 => ⟨S128x100000, .f32⟩
  | 79 => ⟨S128x100000, .f32⟩
  | 80 => ⟨S_, .f32⟩
  | 81 => ⟨S128, .f32⟩
  | 82 => ⟨S128x1, .f32⟩
  | 83 => ⟨S128x100000, .f32⟩
  | 84 => ⟨S128x100000, .f32⟩
  | 85 => ⟨S128x100000, .f32⟩
  | 86 => ⟨S_, .f32⟩
  | 87 => ⟨S128x100000, .f32⟩
  | 88 => ⟨S128x100000, .f32⟩
  | 89 => ⟨S_, .f32⟩
  | 90 => ⟨S128x100000, .f32⟩
  | 91 => ⟨S128x100000, .f32⟩
  | 92 => ⟨S128x100000, .f32⟩
  | 93 => ⟨S128x100000, .f32⟩
  | 94 => ⟨S_, .f32⟩
  | 95 => ⟨S128, .f32⟩
  | 96 => ⟨S_, .f32⟩
  | 97 => ⟨S128, .f32⟩
  | 98 => ⟨S128, .f32⟩
  | 99 => ⟨S128x1, .f32⟩
  | 100 => ⟨S128x100000, .f32⟩
  | 101 => ⟨S128x100000, .f32⟩
  | 102 => ⟨S128x100000, .f32⟩
  | 103 => ⟨S_, .f32⟩
  | 104 => ⟨S128, .f32⟩
  | 105 => ⟨S128x1, .f32⟩
  | 106 => ⟨S128x100000, .f32⟩
  | 107 => ⟨S128x100000, .f32⟩
  | 108 => ⟨S128x100000, .f32⟩
  | 109 => ⟨S_, .f32⟩
  | 110 => ⟨S128x100000, .f32⟩
  | 111 => ⟨S128x100000, .f32⟩
  | 112 => ⟨S_, .f32⟩
  | 113 => ⟨S128x100000, .f32⟩
  | 114 => ⟨S128x100000, .f32⟩
  | 115 => ⟨S128x100000, .f32⟩
  | 116 => ⟨S128x100000, .f32⟩
  | 117 => ⟨S_, .f32⟩
  | 118 => ⟨S128, .f32⟩
  | 119 => ⟨S_, .f32⟩
  | 120 => ⟨S128, .f32⟩
  | 121 => ⟨S128, .f32⟩
  | 122 => ⟨S128x1, .f32⟩
  | 123 => ⟨S128x100000, .f32⟩
  | 124 => ⟨S128x100000, .f32⟩
  | 125 => ⟨S128x100000, .f32⟩
  | 126 => ⟨S_, .f32⟩
  | 127 => ⟨S128, .f32⟩
  | _ => ⟨S128x100000, .f32⟩

abbrev hbmTy0_1 (i : Nat) : BufTy := match i % 128 with
  | 0 => ⟨S128x1, .f32⟩
  | 1 => ⟨S128x100000, .f32⟩
  | 2 => ⟨S128x100000, .f32⟩
  | 3 => ⟨S128x100000, .f32⟩
  | 4 => ⟨S_, .f32⟩
  | 5 => ⟨S128x100000, .f32⟩
  | 6 => ⟨S128x100000, .f32⟩
  | 7 => ⟨S_, .f32⟩
  | 8 => ⟨S128x100000, .f32⟩
  | 9 => ⟨S128x100000, .f32⟩
  | 10 => ⟨S128x100000, .f32⟩
  | 11 => ⟨S128x100000, .f32⟩
  | 12 => ⟨S_, .f32⟩
  | 13 => ⟨S128, .f32⟩
  | 14 => ⟨S_, .f32⟩
  | 15 => ⟨S128, .f32⟩
  | 16 => ⟨S128, .f32⟩
  | 17 => ⟨S128x1, .f32⟩
  | 18 => ⟨S128x100000, .f32⟩
  | 19 => ⟨S128x100000, .f32⟩
  | 20 => ⟨S128x100000, .f32⟩
  | 21 => ⟨S_, .f32⟩
  | 22 => ⟨S128, .f32⟩
  | 23 => ⟨S128x1, .f32⟩
  | 24 => ⟨S128x100000, .f32⟩
  | 25 => ⟨S128x100000, .f32⟩
  | 26 => ⟨S128x100000, .f32⟩
  | 27 => ⟨S_, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S128x100000, .f32⟩
  | 34 => ⟨S128x100000, .f32⟩
  | 35 => ⟨S_, .f32⟩
  | 36 => ⟨S128, .f32⟩
  | 37 => ⟨S_, .f32⟩
  | 38 => ⟨S128, .f32⟩
  | 39 => ⟨S128, .f32⟩
  | 40 => ⟨S128x1, .f32⟩
  | 41 => ⟨S128x100000, .f32⟩
  | 42 => ⟨S128x100000, .f32⟩
  | 43 => ⟨S128x100000, .f32⟩
  | 44 => ⟨S_, .f32⟩
  | 45 => ⟨S128, .f32⟩
  | 46 => ⟨S128x1, .f32⟩
  | 47 => ⟨S128x100000, .f32⟩
  | 48 => ⟨S128x100000, .f32⟩
  | 49 => ⟨S128x100000, .f32⟩
  | 50 => ⟨S_, .f32⟩
  | 51 => ⟨S128x100000, .f32⟩
  | 52 => ⟨S128x100000, .f32⟩
  | 53 => ⟨S_, .f32⟩
  | 54 => ⟨S128x100000, .f32⟩
  | 55 => ⟨S128x100000, .f32⟩
  | 56 => ⟨S128x100000, .f32⟩
  | 57 => ⟨S128x100000, .f32⟩
  | 58 => ⟨S_, .f32⟩
  | 59 => ⟨S128, .f32⟩
  | 60 => ⟨S_, .f32⟩
  | 61 => ⟨S128, .f32⟩
  | 62 => ⟨S128, .f32⟩
  | 63 => ⟨S128x1, .f32⟩
  | 64 => ⟨S128x100000, .f32⟩
  | 65 => ⟨S128x100000, .f32⟩
  | 66 => ⟨S128x100000, .f32⟩
  | 67 => ⟨S_, .f32⟩
  | 68 => ⟨S128, .f32⟩
  | 69 => ⟨S128x1, .f32⟩
  | 70 => ⟨S128x100000, .f32⟩
  | 71 => ⟨S128x100000, .f32⟩
  | 72 => ⟨S128x100000, .f32⟩
  | 73 => ⟨S_, .f32⟩
  | 74 => ⟨S128x100000, .f32⟩
  | 75 => ⟨S128x100000, .f32⟩
  | 76 => ⟨S_, .f32⟩
  | 77 => ⟨S128x100000, .f32⟩
  | 78 => ⟨S128x100000, .f32⟩
  | 79 => ⟨S128x100000, .f32⟩
  | 80 => ⟨S128x100000, .f32⟩
  | 81 => ⟨S_, .f32⟩
  | 82 => ⟨S128, .f32⟩
  | 83 => ⟨S_, .f32⟩
  | 84 => ⟨S128, .f32⟩
  | 85 => ⟨S128, .f32⟩
  | 86 => ⟨S128x1, .f32⟩
  | 87 => ⟨S128x100000, .f32⟩
  | 88 => ⟨S128x100000, .f32⟩
  | 89 => ⟨S128x100000, .f32⟩
  | 90 => ⟨S_, .f32⟩
  | 91 => ⟨S128, .f32⟩
  | 92 => ⟨S128x1, .f32⟩
  | 93 => ⟨S128x100000, .f32⟩
  | 94 => ⟨S128x100000, .f32⟩
  | 95 => ⟨S128x100000, .f32⟩
  | 96 => ⟨S_, .f32⟩
  | 97 => ⟨S128x100000, .f32⟩
  | 98 => ⟨S128x100000, .f32⟩
  | 99 => ⟨S_, .f32⟩
  | 100 => ⟨S128x100000, .f32⟩
  | 101 => ⟨S128x100000, .f32⟩
  | 102 => ⟨S128x100000, .f32⟩
  | 103 => ⟨S128x100000, .f32⟩
  | 104 => ⟨S_, .f32⟩
  | 105 => ⟨S128, .f32⟩
  | 106 => ⟨S_, .f32⟩
  | 107 => ⟨S128, .f32⟩
  | 108 => ⟨S128, .f32⟩
  | 109 => ⟨S128x1, .f32⟩
  | 110 => ⟨S128x100000, .f32⟩
  | 111 => ⟨S128x100000, .f32⟩
  | 112 => ⟨S128x100000, .f32⟩
  | 113 => ⟨S_, .f32⟩
  | 114 => ⟨S128, .f32⟩
  | 115 => ⟨S128x1, .f32⟩
  | 116 => ⟨S128x100000, .f32⟩
  | 117 => ⟨S128x100000, .f32⟩
  | 118 => ⟨S128x100000, .f32⟩
  | 119 => ⟨S_, .f32⟩
  | 120 => ⟨S128x100000, .f32⟩
  | 121 => ⟨S128x100000, .f32⟩
  | 122 => ⟨S_, .f32⟩
  | 123 => ⟨S128x100000, .f32⟩
  | 124 => ⟨S128x100000, .f32⟩
  | 125 => ⟨S128x100000, .f32⟩
  | 126 => ⟨S128x100000, .f32⟩
  | 127 => ⟨S_, .f32⟩
  | _ => ⟨S128x100000, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S128x1, .f32⟩
  | 5 => ⟨S128x100000, .f32⟩
  | 6 => ⟨S128x100000, .f32⟩
  | 7 => ⟨S128x100000, .f32⟩
  | 8 => ⟨S_, .f32⟩
  | 9 => ⟨S128, .f32⟩
  | 10 => ⟨S128x1, .f32⟩
  | 11 => ⟨S128x100000, .f32⟩
  | 12 => ⟨S128x100000, .f32⟩
  | 13 => ⟨S128x100000, .f32⟩
  | 14 => ⟨S_, .f32⟩
  | 15 => ⟨S128x100000, .f32⟩
  | 16 => ⟨S128x100000, .f32⟩
  | 17 => ⟨S_, .f32⟩
  | 18 => ⟨S128x100000, .f32⟩
  | 19 => ⟨S128x100000, .f32⟩
  | 20 => ⟨S128x100000, .f32⟩
  | 21 => ⟨S128x100000, .f32⟩
  | 22 => ⟨S_, .f32⟩
  | 23 => ⟨S128, .f32⟩
  | 24 => ⟨S_, .f32⟩
  | 25 => ⟨S128, .f32⟩
  | 26 => ⟨S128, .f32⟩
  | 27 => ⟨S128x1, .f32⟩
  | 28 => ⟨S128x100000, .f32⟩
  | 29 => ⟨S128x100000, .f32⟩
  | 30 => ⟨S128x100000, .f32⟩
  | 31 => ⟨S_, .f32⟩
  | 32 => ⟨S128, .f32⟩
  | 33 => ⟨S128x1, .f32⟩
  | 34 => ⟨S128x100000, .f32⟩
  | 35 => ⟨S128x100000, .f32⟩
  | 36 => ⟨S128x100000, .f32⟩
  | 37 => ⟨S_, .f32⟩
  | 38 => ⟨S128x100000, .f32⟩
  | 39 => ⟨S128x100000, .f32⟩
  | 40 => ⟨S_, .f32⟩
  | 41 => ⟨S128x100000, .f32⟩
  | 42 => ⟨S128x100000, .f32⟩
  | 43 => ⟨S128x100000, .f32⟩
  | 44 => ⟨S128x100000, .f32⟩
  | 45 => ⟨S_, .f32⟩
  | 46 => ⟨S128, .f32⟩
  | 47 => ⟨S_, .f32⟩
  | 48 => ⟨S128, .f32⟩
  | 49 => ⟨S128, .f32⟩
  | 50 => ⟨S128x1, .f32⟩
  | 51 => ⟨S128x100000, .f32⟩
  | 52 => ⟨S128x100000, .f32⟩
  | 53 => ⟨S128x100000, .f32⟩
  | 54 => ⟨S_, .f32⟩
  | 55 => ⟨S128, .f32⟩
  | 56 => ⟨S128x1, .f32⟩
  | 57 => ⟨S128x100000, .f32⟩
  | 58 => ⟨S128x100000, .f32⟩
  | 59 => ⟨S128x100000, .f32⟩
  | 60 => ⟨S_, .f32⟩
  | 61 => ⟨S128x100000, .f32⟩
  | 62 => ⟨S128x100000, .f32⟩
  | 63 => ⟨S_, .f32⟩
  | 64 => ⟨S128x100000, .f32⟩
  | 65 => ⟨S128x100000, .f32⟩
  | 66 => ⟨S128x100000, .f32⟩
  | 67 => ⟨S128x100000, .f32⟩
  | 68 => ⟨S_, .f32⟩
  | 69 => ⟨S128, .f32⟩
  | 70 => ⟨S_, .f32⟩
  | 71 => ⟨S128, .f32⟩
  | 72 => ⟨S128, .f32⟩
  | 73 => ⟨S128x1, .f32⟩
  | 74 => ⟨S128x100000, .f32⟩
  | 75 => ⟨S128x100000, .f32⟩
  | 76 => ⟨S128x100000, .f32⟩
  | 77 => ⟨S_, .f32⟩
  | 78 => ⟨S128, .f32⟩
  | 79 => ⟨S128x1, .f32⟩
  | 80 => ⟨S128x100000, .f32⟩
  | 81 => ⟨S128x100000, .f32⟩
  | 82 => ⟨S128x100000, .f32⟩
  | 83 => ⟨S_, .f32⟩
  | 84 => ⟨S128x100000, .f32⟩
  | 85 => ⟨S128x100000, .f32⟩
  | 86 => ⟨S_, .f32⟩
  | 87 => ⟨S128x100000, .f32⟩
  | 88 => ⟨S128x100000, .f32⟩
  | 89 => ⟨S128x100000, .f32⟩
  | 90 => ⟨S128x100000, .f32⟩
  | 91 => ⟨S_, .f32⟩
  | 92 => ⟨S128, .f32⟩
  | 93 => ⟨S_, .f32⟩
  | 94 => ⟨S128, .f32⟩
  | 95 => ⟨S128, .f32⟩
  | 96 => ⟨S128x1, .f32⟩
  | 97 => ⟨S128x100000, .f32⟩
  | 98 => ⟨S128x100000, .f32⟩
  | 99 => ⟨S128x100000, .f32⟩
  | 100 => ⟨S_, .f32⟩
  | 101 => ⟨S128, .f32⟩
  | 102 => ⟨S128x1, .f32⟩
  | 103 => ⟨S128x100000, .f32⟩
  | 104 => ⟨S128x100000, .f32⟩
  | 105 => ⟨S128x100000, .f32⟩
  | 106 => ⟨S_, .f32⟩
  | 107 => ⟨S128x100000, .f32⟩
  | 108 => ⟨S128x100000, .f32⟩
  | 109 => ⟨S_, .f32⟩
  | 110 => ⟨S128x100000, .f32⟩
  | 111 => ⟨S128x100000, .f32⟩
  | 112 => ⟨S128x100000, .f32⟩
  | 113 => ⟨S128x100000, .f32⟩
  | 114 => ⟨S_, .f32⟩
  | 115 => ⟨S128, .f32⟩
  | 116 => ⟨S_, .f32⟩
  | 117 => ⟨S128, .f32⟩
  | 118 => ⟨S128, .f32⟩
  | 119 => ⟨S128x1, .f32⟩
  | 120 => ⟨S128x100000, .f32⟩
  | 121 => ⟨S128x100000, .f32⟩
  | 122 => ⟨S128x100000, .f32⟩
  | 123 => ⟨S_, .f32⟩
  | 124 => ⟨S128, .f32⟩
  | 125 => ⟨S128x1, .f32⟩
  | 126 => ⟨S128x100000, .f32⟩
  | 127 => ⟨S128x100000, .f32⟩
  | _ => ⟨S128x100000, .f32⟩

abbrev hbmTy0_3 (i : Nat) : BufTy := match i % 128 with
  | 0 => ⟨S128x100000, .f32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_cst_11 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_12 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_13 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_15 : Ref sig .tc := ⟨.hbm, 71, rfl⟩
abbrev main_v54 : Ref sig .tc := ⟨.hbm, 72, rfl⟩
abbrev main_cst_16 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_17 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_18 : Ref sig .tc := ⟨.hbm, 86, rfl⟩
abbrev main_v66 : Ref sig .tc := ⟨.hbm, 87, rfl⟩
abbrev main_v67 : Ref sig .tc := ⟨.hbm, 88, rfl⟩
abbrev main_cst_19 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_20 : Ref sig .tc := ⟨.hbm, 94, rfl⟩
abbrev main_v72 : Ref sig .tc := ⟨.hbm, 95, rfl⟩
abbrev main_cst_21 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_22 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_23 : Ref sig .tc := ⟨.hbm, 109, rfl⟩
abbrev main_v84 : Ref sig .tc := ⟨.hbm, 110, rfl⟩
abbrev main_v85 : Ref sig .tc := ⟨.hbm, 111, rfl⟩
abbrev main_cst_24 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_25 : Ref sig .tc := ⟨.hbm, 117, rfl⟩
abbrev main_v90 : Ref sig .tc := ⟨.hbm, 118, rfl⟩
abbrev main_cst_26 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_27 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_28 : Ref sig .tc := ⟨.hbm, 132, rfl⟩
abbrev main_v102 : Ref sig .tc := ⟨.hbm, 133, rfl⟩
abbrev main_v103 : Ref sig .tc := ⟨.hbm, 134, rfl⟩
abbrev main_cst_29 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_30 : Ref sig .tc := ⟨.hbm, 140, rfl⟩
abbrev main_v108 : Ref sig .tc := ⟨.hbm, 141, rfl⟩
abbrev main_cst_31 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_32 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_33 : Ref sig .tc := ⟨.hbm, 155, rfl⟩
abbrev main_v120 : Ref sig .tc := ⟨.hbm, 156, rfl⟩
abbrev main_v121 : Ref sig .tc := ⟨.hbm, 157, rfl⟩
abbrev main_cst_34 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_35 : Ref sig .tc := ⟨.hbm, 163, rfl⟩
abbrev main_v126 : Ref sig .tc := ⟨.hbm, 164, rfl⟩
abbrev main_cst_36 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_37 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_38 : Ref sig .tc := ⟨.hbm, 178, rfl⟩
abbrev main_v138 : Ref sig .tc := ⟨.hbm, 179, rfl⟩
abbrev main_v139 : Ref sig .tc := ⟨.hbm, 180, rfl⟩
abbrev main_cst_39 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_40 : Ref sig .tc := ⟨.hbm, 186, rfl⟩
abbrev main_v144 : Ref sig .tc := ⟨.hbm, 187, rfl⟩
abbrev main_cst_41 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_42 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_43 : Ref sig .tc := ⟨.hbm, 201, rfl⟩
abbrev main_v156 : Ref sig .tc := ⟨.hbm, 202, rfl⟩
abbrev main_v157 : Ref sig .tc := ⟨.hbm, 203, rfl⟩
abbrev main_cst_44 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_45 : Ref sig .tc := ⟨.hbm, 209, rfl⟩
abbrev main_v162 : Ref sig .tc := ⟨.hbm, 210, rfl⟩
abbrev main_cst_46 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_47 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_48 : Ref sig .tc := ⟨.hbm, 224, rfl⟩
abbrev main_v174 : Ref sig .tc := ⟨.hbm, 225, rfl⟩
abbrev main_v175 : Ref sig .tc := ⟨.hbm, 226, rfl⟩
abbrev main_cst_49 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_50 : Ref sig .tc := ⟨.hbm, 232, rfl⟩
abbrev main_v180 : Ref sig .tc := ⟨.hbm, 233, rfl⟩
abbrev main_cst_51 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_52 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_53 : Ref sig .tc := ⟨.hbm, 247, rfl⟩
abbrev main_v192 : Ref sig .tc := ⟨.hbm, 248, rfl⟩
abbrev main_v193 : Ref sig .tc := ⟨.hbm, 249, rfl⟩
abbrev main_cst_54 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_55 : Ref sig .tc := ⟨.hbm, 255, rfl⟩
abbrev main_v198 : Ref sig .tc := ⟨.hbm, 256, rfl⟩
abbrev main_cst_56 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_cst_57 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_cst_58 : Ref sig .tc := ⟨.hbm, 270, rfl⟩
abbrev main_v210 : Ref sig .tc := ⟨.hbm, 271, rfl⟩
abbrev main_v211 : Ref sig .tc := ⟨.hbm, 272, rfl⟩
abbrev main_cst_59 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_cst_60 : Ref sig .tc := ⟨.hbm, 278, rfl⟩
abbrev main_v216 : Ref sig .tc := ⟨.hbm, 279, rfl⟩
abbrev main_cst_61 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_62 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_63 : Ref sig .tc := ⟨.hbm, 293, rfl⟩
abbrev main_v228 : Ref sig .tc := ⟨.hbm, 294, rfl⟩
abbrev main_v229 : Ref sig .tc := ⟨.hbm, 295, rfl⟩
abbrev main_cst_64 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_cst_65 : Ref sig .tc := ⟨.hbm, 301, rfl⟩
abbrev main_v234 : Ref sig .tc := ⟨.hbm, 302, rfl⟩
abbrev main_cst_66 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_cst_67 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_cst_68 : Ref sig .tc := ⟨.hbm, 316, rfl⟩
abbrev main_v246 : Ref sig .tc := ⟨.hbm, 317, rfl⟩
abbrev main_v247 : Ref sig .tc := ⟨.hbm, 318, rfl⟩
abbrev main_cst_69 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_cst_70 : Ref sig .tc := ⟨.hbm, 324, rfl⟩
abbrev main_v252 : Ref sig .tc := ⟨.hbm, 325, rfl⟩
abbrev main_cst_71 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_cst_72 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_cst_73 : Ref sig .tc := ⟨.hbm, 339, rfl⟩
abbrev main_v264 : Ref sig .tc := ⟨.hbm, 340, rfl⟩
abbrev main_v265 : Ref sig .tc := ⟨.hbm, 341, rfl⟩
abbrev main_cst_74 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_cst_75 : Ref sig .tc := ⟨.hbm, 347, rfl⟩
abbrev main_v270 : Ref sig .tc := ⟨.hbm, 348, rfl⟩
abbrev main_cst_76 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_cst_77 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_cst_78 : Ref sig .tc := ⟨.hbm, 362, rfl⟩
abbrev main_v282 : Ref sig .tc := ⟨.hbm, 363, rfl⟩
abbrev main_v283 : Ref sig .tc := ⟨.hbm, 364, rfl⟩
abbrev main_cst_79 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_cst_80 : Ref sig .tc := ⟨.hbm, 370, rfl⟩
abbrev main_v288 : Ref sig .tc := ⟨.hbm, 371, rfl⟩
abbrev main_cst_81 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_cst_82 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩

abbrev nD : Nat := 1
abbrev τ : Topo := Topo.v7x

variable {F : FTy → Type} [FloatOps F]
-- ==== Kernel2.lean ====
abbrev S128x100000 : Shape := ⟨2, ![128, 100000]⟩
abbrev S8x100000 : Shape := ⟨2, ![8, 100000]⟩
abbrev S8 : Shape := ⟨1, ![8]⟩
abbrev S8x1 : Shape := ⟨2, ![8, 1]⟩

abbrev nBuf : Space → Nat
  | .hbm => 3
  | .vmem => 7
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | .local _ .vmem, ⟨6, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S128x16 : Shape := ⟨2, ![128, 16]⟩
abbrev S128x16x1 : Shape := ⟨3, ![128, 16, 1]⟩
abbrev S128x16x2 : Shape := ⟨3, ![128, 16, 2]⟩

abbrev nBuf : Space → Nat
  | .hbm => 414
  | .vmem => 0
  | .smem => 0
  | _ => 0

abbrev hbmTy0_0 (i : Nat) : BufTy := match i % 128 with
  | 0 => ⟨S128x100000, .f32⟩
  | 1 => ⟨S_, .f32⟩
  | 2 => ⟨S128, .f32⟩
  | 3 => ⟨S128x1, .f32⟩
  | 4 => ⟨S128x100000, .f32⟩
  | 5 => ⟨S128x100000, .f32⟩
  | 6 => ⟨S128x100000, .f32⟩
  | 7 => ⟨S_, .f32⟩
  | 8 => ⟨S128, .f32⟩
  | 9 => ⟨S128x1, .f32⟩
  | 10 => ⟨S128x1, .f32⟩
  | 11 => ⟨S128x100000, .f32⟩
  | 12 => ⟨S128x100000, .f32⟩
  | 13 => ⟨S_, .f32⟩
  | 14 => ⟨S128x100000, .f32⟩
  | 15 => ⟨S_, .f32⟩
  | 16 => ⟨S128x100000, .f32⟩
  | 17 => ⟨S_, .f32⟩
  | 18 => ⟨S128x100000, .f32⟩
  | 19 => ⟨S128x100000, .f32⟩
  | 20 => ⟨S_, .f32⟩
  | 21 => ⟨S128x100000, .f32⟩
  | 22 => ⟨S128x100000, .f32⟩
  | 23 => ⟨S128x100000, .f32⟩
  | 24 => ⟨S128x100000, .f32⟩
  | 25 => ⟨S_, .f32⟩
  | 26 => ⟨S128, .f32⟩
  | 27 => ⟨S_, .f32⟩
  | 28 => ⟨S128, .f32⟩
  | 29 => ⟨S128, .f32⟩
  | 30 => ⟨S128x1, .f32⟩
  | 31 => ⟨S128x100000, .f32⟩
  | 32 => ⟨S128x100000, .f32⟩
  | 33 => ⟨S128x100000, .f32⟩
  | 34 => ⟨S_, .f32⟩
  | 35 => ⟨S128, .f32⟩
  | 36 => ⟨S128x1, .f32⟩
  | 37 => ⟨S128x100000, .f32⟩
  | 38 => ⟨S128x100000, .f32⟩
  | 39 => ⟨S128x100000, .f32⟩
  | 40 => ⟨S_, .f32⟩
  | 41 => ⟨S128x100000, .f32⟩
  | 42 => ⟨S128x100000, .f32⟩
  | 43 => ⟨S_, .f32⟩
  | 44 => ⟨S128x100000, .f32⟩
  | 45 => ⟨S128x100000, .f32⟩
  | 46 => ⟨S128x100000, .f32⟩
  | 47 => ⟨S128x100000, .f32⟩
  | 48 => ⟨S_, .f32⟩
  | 49 => ⟨S128, .f32⟩
  | 50 => ⟨S_, .f32⟩
  | 51 => ⟨S128, .f32⟩
  | 52 => ⟨S128, .f32⟩
  | 53 => ⟨S128x1, .f32⟩
  | 54 => ⟨S128x100000, .f32⟩
  | 55 => ⟨S128x100000, .f32⟩
  | 56 => ⟨S128x100000, .f32⟩
  | 57 => ⟨S_, .f32⟩
  | 58 => ⟨S128, .f32⟩
  | 59 => ⟨S128x1, .f32⟩
  | 60 => ⟨S128x100000, .f32⟩
  | 61 => ⟨S128x100000, .f32⟩
  | 62 => ⟨S128x100000, .f32⟩
  | 63 => ⟨S_, .f32⟩
  | 64 => ⟨S128x100000, .f32⟩
  | 65 => ⟨S128x100000, .f32⟩
  | 66 => ⟨S_, .f32⟩
  | 67 => ⟨S128x100000, .f32⟩
  | 68 => ⟨S128x100000, .f32⟩
  | 69 => ⟨S128x100000, .f32⟩
  | 70 => ⟨S128x100000, .f32⟩
  | 71 => ⟨S_, .f32⟩
  | 72 => ⟨S128, .f32⟩
  | 73 => ⟨S_, .f32⟩
  | 74 => ⟨S128, .f32⟩
  | 75 => ⟨S128, .f32⟩
  | 76 => ⟨S128x1, .f32⟩
  | 77 => ⟨S128x100000, .f32⟩
  | 78 => ⟨S128x100000, .f32⟩
  | 79 => ⟨S128x100000, .f32⟩
  | 80 => ⟨S_, .f32⟩
  | 81 => ⟨S128, .f32⟩
  | 82 => ⟨S128x1, .f32⟩
  | 83 => ⟨S128x100000, .f32⟩
  | 84 => ⟨S128x100000, .f32⟩
  | 85 => ⟨S128x100000, .f32⟩
  | 86 => ⟨S_, .f32⟩
  | 87 => ⟨S128x100000, .f32⟩
  | 88 => ⟨S128x100000, .f32⟩
  | 89 => ⟨S_, .f32⟩
  | 90 => ⟨S128x100000, .f32⟩
  | 91 => ⟨S128x100000, .f32⟩
  | 92 => ⟨S128x100000, .f32⟩
  | 93 => ⟨S128x100000, .f32⟩
  | 94 => ⟨S_, .f32⟩
  | 95 => ⟨S128, .f32⟩
  | 96 => ⟨S_, .f32⟩
  | 97 => ⟨S128, .f32⟩
  | 98 => ⟨S128, .f32⟩
  | 99 => ⟨S128x1, .f32⟩
  | 100 => ⟨S128x100000, .f32⟩
  | 101 => ⟨S128x100000, .f32⟩
  | 102 => ⟨S128x100000, .f32⟩
  | 103 => ⟨S_, .f32⟩
  | 104 => ⟨S128, .f32⟩
  | 105 => ⟨S128x1, .f32⟩
  | 106 => ⟨S128x100000, .f32⟩
  | 107 => ⟨S128x100000, .f32⟩
  | 108 => ⟨S128x100000, .f32⟩
  | 109 => ⟨S_, .f32⟩
  | 110 => ⟨S128x100000, .f32⟩
  | 111 => ⟨S128x100000, .f32⟩
  | 112 => ⟨S_, .f32⟩
  | 113 => ⟨S128x100000, .f32⟩
  | 114 => ⟨S128x100000, .f32⟩
  | 115 => ⟨S128x100000, .f32⟩
  | 116 => ⟨S128x100000, .f32⟩
  | 117 => ⟨S_, .f32⟩
  | 118 => ⟨S128, .f32⟩
  | 119 => ⟨S_, .f32⟩
  | 120 => ⟨S128, .f32⟩
  | 121 => ⟨S128, .f32⟩
  | 122 => ⟨S128x1, .f32⟩
  | 123 => ⟨S128x100000, .f32⟩
  | 124 => ⟨S128x100000, .f32⟩
  | 125 => ⟨S128x100000, .f32⟩
  | 126 => ⟨S_, .f32⟩
  | 127 => ⟨S128, .f32⟩
  | _ => ⟨S128x100000, .f32⟩

abbrev hbmTy0_1 (i : Nat) : BufTy := match i % 128 with
  | 0 => ⟨S128x1, .f32⟩
  | 1 => ⟨S128x100000, .f32⟩
  | 2 => ⟨S128x100000, .f32⟩
  | 3 => ⟨S128x100000, .f32⟩
  | 4 => ⟨S_, .f32⟩
  | 5 => ⟨S128x100000, .f32⟩
  | 6 => ⟨S128x100000, .f32⟩
  | 7 => ⟨S_, .f32⟩
  | 8 => ⟨S128x100000, .f32⟩
  | 9 => ⟨S128x100000, .f32⟩
  | 10 => ⟨S128x100000, .f32⟩
  | 11 => ⟨S128x100000, .f32⟩
  | 12 => ⟨S_, .f32⟩
  | 13 => ⟨S128, .f32⟩
  | 14 => ⟨S_, .f32⟩
  | 15 => ⟨S128, .f32⟩
  | 16 => ⟨S128, .f32⟩
  | 17 => ⟨S128x1, .f32⟩
  | 18 => ⟨S128x100000, .f32⟩
  | 19 => ⟨S128x100000, .f32⟩
  | 20 => ⟨S128x100000, .f32⟩
  | 21 => ⟨S_, .f32⟩
  | 22 => ⟨S128, .f32⟩
  | 23 => ⟨S128x1, .f32⟩
  | 24 => ⟨S128x100000, .f32⟩
  | 25 => ⟨S128x100000, .f32⟩
  | 26 => ⟨S128x100000, .f32⟩
  | 27 => ⟨S_, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S128x100000, .f32⟩
  | 34 => ⟨S128x100000, .f32⟩
  | 35 => ⟨S_, .f32⟩
  | 36 => ⟨S128, .f32⟩
  | 37 => ⟨S_, .f32⟩
  | 38 => ⟨S128, .f32⟩
  | 39 => ⟨S128, .f32⟩
  | 40 => ⟨S128x1, .f32⟩
  | 41 => ⟨S128x100000, .f32⟩
  | 42 => ⟨S128x100000, .f32⟩
  | 43 => ⟨S128x100000, .f32⟩
  | 44 => ⟨S_, .f32⟩
  | 45 => ⟨S128, .f32⟩
  | 46 => ⟨S128x1, .f32⟩
  | 47 => ⟨S128x100000, .f32⟩
  | 48 => ⟨S128x100000, .f32⟩
  | 49 => ⟨S128x100000, .f32⟩
  | 50 => ⟨S_, .f32⟩
  | 51 => ⟨S128x100000, .f32⟩
  | 52 => ⟨S128x100000, .f32⟩
  | 53 => ⟨S_, .f32⟩
  | 54 => ⟨S128x100000, .f32⟩
  | 55 => ⟨S128x100000, .f32⟩
  | 56 => ⟨S128x100000, .f32⟩
  | 57 => ⟨S128x100000, .f32⟩
  | 58 => ⟨S_, .f32⟩
  | 59 => ⟨S128, .f32⟩
  | 60 => ⟨S_, .f32⟩
  | 61 => ⟨S128, .f32⟩
  | 62 => ⟨S128, .f32⟩
  | 63 => ⟨S128x1, .f32⟩
  | 64 => ⟨S128x100000, .f32⟩
  | 65 => ⟨S128x100000, .f32⟩
  | 66 => ⟨S128x100000, .f32⟩
  | 67 => ⟨S_, .f32⟩
  | 68 => ⟨S128, .f32⟩
  | 69 => ⟨S128x1, .f32⟩
  | 70 => ⟨S128x100000, .f32⟩
  | 71 => ⟨S128x100000, .f32⟩
  | 72 => ⟨S128x100000, .f32⟩
  | 73 => ⟨S_, .f32⟩
  | 74 => ⟨S128x100000, .f32⟩
  | 75 => ⟨S128x100000, .f32⟩
  | 76 => ⟨S_, .f32⟩
  | 77 => ⟨S128x100000, .f32⟩
  | 78 => ⟨S128x100000, .f32⟩
  | 79 => ⟨S128x100000, .f32⟩
  | 80 => ⟨S128x100000, .f32⟩
  | 81 => ⟨S_, .f32⟩
  | 82 => ⟨S128, .f32⟩
  | 83 => ⟨S_, .f32⟩
  | 84 => ⟨S128, .f32⟩
  | 85 => ⟨S128, .f32⟩
  | 86 => ⟨S128x1, .f32⟩
  | 87 => ⟨S128x100000, .f32⟩
  | 88 => ⟨S128x100000, .f32⟩
  | 89 => ⟨S128x100000, .f32⟩
  | 90 => ⟨S_, .f32⟩
  | 91 => ⟨S128, .f32⟩
  | 92 => ⟨S128x1, .f32⟩
  | 93 => ⟨S128x100000, .f32⟩
  | 94 => ⟨S128x100000, .f32⟩
  | 95 => ⟨S128x100000, .f32⟩
  | 96 => ⟨S_, .f32⟩
  | 97 => ⟨S128x100000, .f32⟩
  | 98 => ⟨S128x100000, .f32⟩
  | 99 => ⟨S_, .f32⟩
  | 100 => ⟨S128x100000, .f32⟩
  | 101 => ⟨S128x100000, .f32⟩
  | 102 => ⟨S128x100000, .f32⟩
  | 103 => ⟨S128x100000, .f32⟩
  | 104 => ⟨S_, .f32⟩
  | 105 => ⟨S128, .f32⟩
  | 106 => ⟨S_, .f32⟩
  | 107 => ⟨S128, .f32⟩
  | 108 => ⟨S128, .f32⟩
  | 109 => ⟨S128x1, .f32⟩
  | 110 => ⟨S128x100000, .f32⟩
  | 111 => ⟨S128x100000, .f32⟩
  | 112 => ⟨S128x100000, .f32⟩
  | 113 => ⟨S_, .f32⟩
  | 114 => ⟨S128, .f32⟩
  | 115 => ⟨S128x1, .f32⟩
  | 116 => ⟨S128x100000, .f32⟩
  | 117 => ⟨S128x100000, .f32⟩
  | 118 => ⟨S128x100000, .f32⟩
  | 119 => ⟨S_, .f32⟩
  | 120 => ⟨S128x100000, .f32⟩
  | 121 => ⟨S128x100000, .f32⟩
  | 122 => ⟨S_, .f32⟩
  | 123 => ⟨S128x100000, .f32⟩
  | 124 => ⟨S128x100000, .f32⟩
  | 125 => ⟨S128x100000, .f32⟩
  | 126 => ⟨S128x100000, .f32⟩
  | 127 => ⟨S_, .f32⟩
  | _ => ⟨S128x100000, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S128x1, .f32⟩
  | 5 => ⟨S128x100000, .f32⟩
  | 6 => ⟨S128x100000, .f32⟩
  | 7 => ⟨S128x100000, .f32⟩
  | 8 => ⟨S_, .f32⟩
  | 9 => ⟨S128, .f32⟩
  | 10 => ⟨S128x1, .f32⟩
  | 11 => ⟨S128x100000, .f32⟩
  | 12 => ⟨S128x100000, .f32⟩
  | 13 => ⟨S128x100000, .f32⟩
  | 14 => ⟨S_, .f32⟩
  | 15 => ⟨S128x100000, .f32⟩
  | 16 => ⟨S128x100000, .f32⟩
  | 17 => ⟨S_, .f32⟩
  | 18 => ⟨S128x100000, .f32⟩
  | 19 => ⟨S128x100000, .f32⟩
  | 20 => ⟨S128x100000, .f32⟩
  | 21 => ⟨S128x100000, .f32⟩
  | 22 => ⟨S_, .f32⟩
  | 23 => ⟨S128, .f32⟩
  | 24 => ⟨S_, .f32⟩
  | 25 => ⟨S128, .f32⟩
  | 26 => ⟨S128, .f32⟩
  | 27 => ⟨S128x1, .f32⟩
  | 28 => ⟨S128x100000, .f32⟩
  | 29 => ⟨S128x100000, .f32⟩
  | 30 => ⟨S128x100000, .f32⟩
  | 31 => ⟨S_, .f32⟩
  | 32 => ⟨S128, .f32⟩
  | 33 => ⟨S128x1, .f32⟩
  | 34 => ⟨S128x100000, .f32⟩
  | 35 => ⟨S128x100000, .f32⟩
  | 36 => ⟨S128x100000, .f32⟩
  | 37 => ⟨S_, .f32⟩
  | 38 => ⟨S128x100000, .f32⟩
  | 39 => ⟨S128x100000, .f32⟩
  | 40 => ⟨S_, .f32⟩
  | 41 => ⟨S128x100000, .f32⟩
  | 42 => ⟨S128x100000, .f32⟩
  | 43 => ⟨S128x100000, .f32⟩
  | 44 => ⟨S128x100000, .f32⟩
  | 45 => ⟨S_, .f32⟩
  | 46 => ⟨S128, .f32⟩
  | 47 => ⟨S_, .f32⟩
  | 48 => ⟨S128, .f32⟩
  | 49 => ⟨S128, .f32⟩
  | 50 => ⟨S128x1, .f32⟩
  | 51 => ⟨S128x100000, .f32⟩
  | 52 => ⟨S128x100000, .f32⟩
  | 53 => ⟨S128x100000, .f32⟩
  | 54 => ⟨S_, .f32⟩
  | 55 => ⟨S128, .f32⟩
  | 56 => ⟨S128x1, .f32⟩
  | 57 => ⟨S128x100000, .f32⟩
  | 58 => ⟨S128x100000, .f32⟩
  | 59 => ⟨S128x100000, .f32⟩
  | 60 => ⟨S_, .f32⟩
  | 61 => ⟨S128x100000, .f32⟩
  | 62 => ⟨S128x100000, .f32⟩
  | 63 => ⟨S_, .f32⟩
  | 64 => ⟨S128x100000, .f32⟩
  | 65 => ⟨S128x100000, .f32⟩
  | 66 => ⟨S128x100000, .f32⟩
  | 67 => ⟨S128x100000, .f32⟩
  | 68 => ⟨S_, .f32⟩
  | 69 => ⟨S128, .f32⟩
  | 70 => ⟨S_, .f32⟩
  | 71 => ⟨S128, .f32⟩
  | 72 => ⟨S128, .f32⟩
  | 73 => ⟨S128x1, .f32⟩
  | 74 => ⟨S128x100000, .f32⟩
  | 75 => ⟨S128x100000, .f32⟩
  | 76 => ⟨S128x100000, .f32⟩
  | 77 => ⟨S_, .f32⟩
  | 78 => ⟨S128, .f32⟩
  | 79 => ⟨S128x1, .f32⟩
  | 80 => ⟨S128x100000, .f32⟩
  | 81 => ⟨S128x100000, .f32⟩
  | 82 => ⟨S128x100000, .f32⟩
  | 83 => ⟨S_, .f32⟩
  | 84 => ⟨S128x100000, .f32⟩
  | 85 => ⟨S128x100000, .f32⟩
  | 86 => ⟨S_, .f32⟩
  | 87 => ⟨S128x100000, .f32⟩
  | 88 => ⟨S128x100000, .f32⟩
  | 89 => ⟨S128x100000, .f32⟩
  | 90 => ⟨S128x100000, .f32⟩
  | 91 => ⟨S_, .f32⟩
  | 92 => ⟨S128, .f32⟩
  | 93 => ⟨S_, .f32⟩
  | 94 => ⟨S128, .f32⟩
  | 95 => ⟨S128, .f32⟩
  | 96 => ⟨S128x1, .f32⟩
  | 97 => ⟨S128x100000, .f32⟩
  | 98 => ⟨S128x100000, .f32⟩
  | 99 => ⟨S128x100000, .f32⟩
  | 100 => ⟨S_, .f32⟩
  | 101 => ⟨S128, .f32⟩
  | 102 => ⟨S128x1, .f32⟩
  | 103 => ⟨S128x100000, .f32⟩
  | 104 => ⟨S128x100000, .f32⟩
  | 105 => ⟨S128x100000, .f32⟩
  | 106 => ⟨S_, .f32⟩
  | 107 => ⟨S128x100000, .f32⟩
  | 108 => ⟨S128x100000, .f32⟩
  | 109 => ⟨S_, .f32⟩
  | 110 => ⟨S128x100000, .f32⟩
  | 111 => ⟨S128x100000, .f32⟩
  | 112 => ⟨S128x100000, .f32⟩
  | 113 => ⟨S128x100000, .f32⟩
  | 114 => ⟨S_, .f32⟩
  | 115 => ⟨S128, .f32⟩
  | 116 => ⟨S_, .f32⟩
  | 117 => ⟨S128, .f32⟩
  | 118 => ⟨S128, .f32⟩
  | 119 => ⟨S128x1, .f32⟩
  | 120 => ⟨S128x100000, .f32⟩
  | 121 => ⟨S128x100000, .f32⟩
  | 122 => ⟨S128x100000, .f32⟩
  | 123 => ⟨S_, .f32⟩
  | 124 => ⟨S128, .f32⟩
  | 125 => ⟨S128x1, .f32⟩
  | 126 => ⟨S128x100000, .f32⟩
  | 127 => ⟨S128x100000, .f32⟩
  | _ => ⟨S128x100000, .f32⟩

abbrev hbmTy0_3 (i : Nat) : BufTy := match i % 128 with
  | 0 => ⟨S128x100000, .f32⟩
  | 1 => ⟨S128x16, .f32⟩
  | 2 => ⟨S128x16, .i32⟩
  | 3 => ⟨S128, .i32⟩
  | 4 => ⟨S128x1, .i32⟩
  | 5 => ⟨S_, .f32⟩
  | 6 => ⟨S128x100000, .f32⟩
  | 7 => ⟨S_, .i32⟩
  | 8 => ⟨S128x1, .i32⟩
  | 9 => ⟨S128x1, .i1⟩
  | 10 => ⟨S_, .i32⟩
  | 11 => ⟨S128x1, .i32⟩
  | 12 => ⟨S128x1, .i32⟩
  | 13 => ⟨S128x1, .i32⟩
  | 14 => ⟨S_, .i32⟩
  | 15 => ⟨S128x16, .i32⟩
  | 16 => ⟨S128x16, .i1⟩
  | 17 => ⟨S_, .i32⟩
  | 18 => ⟨S128x16, .i32⟩
  | 19 => ⟨S128x16, .i32⟩
  | 20 => ⟨S128x16, .i32⟩
  | 21 => ⟨S128x16, .i32⟩
  | 22 => ⟨S128x16x1, .i32⟩
  | 23 => ⟨S128x16x1, .i32⟩
  | 24 => ⟨S128x16x2, .i32⟩
  | 25 => ⟨S_, .f32⟩
  | 26 => ⟨S128x16, .f32⟩
  | 27 => ⟨S128x100000, .f32⟩
  | 28 => ⟨S128x100000, .f32⟩
  | 29 => ⟨S128x100000, .f32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_cst_11 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_12 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_13 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_15 : Ref sig .tc := ⟨.hbm, 71, rfl⟩
abbrev main_v54 : Ref sig .tc := ⟨.hbm, 72, rfl⟩
abbrev main_cst_16 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_17 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_18 : Ref sig .tc := ⟨.hbm, 86, rfl⟩
abbrev main_v66 : Ref sig .tc := ⟨.hbm, 87, rfl⟩
abbrev main_v67 : Ref sig .tc := ⟨.hbm, 88, rfl⟩
abbrev main_cst_19 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_20 : Ref sig .tc := ⟨.hbm, 94, rfl⟩
abbrev main_v72 : Ref sig .tc := ⟨.hbm, 95, rfl⟩
abbrev main_cst_21 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_22 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_23 : Ref sig .tc := ⟨.hbm, 109, rfl⟩
abbrev main_v84 : Ref sig .tc := ⟨.hbm, 110, rfl⟩
abbrev main_v85 : Ref sig .tc := ⟨.hbm, 111, rfl⟩
abbrev main_cst_24 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_25 : Ref sig .tc := ⟨.hbm, 117, rfl⟩
abbrev main_v90 : Ref sig .tc := ⟨.hbm, 118, rfl⟩
abbrev main_cst_26 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_27 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_28 : Ref sig .tc := ⟨.hbm, 132, rfl⟩
abbrev main_v102 : Ref sig .tc := ⟨.hbm, 133, rfl⟩
abbrev main_v103 : Ref sig .tc := ⟨.hbm, 134, rfl⟩
abbrev main_cst_29 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_30 : Ref sig .tc := ⟨.hbm, 140, rfl⟩
abbrev main_v108 : Ref sig .tc := ⟨.hbm, 141, rfl⟩
abbrev main_cst_31 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_32 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_33 : Ref sig .tc := ⟨.hbm, 155, rfl⟩
abbrev main_v120 : Ref sig .tc := ⟨.hbm, 156, rfl⟩
abbrev main_v121 : Ref sig .tc := ⟨.hbm, 157, rfl⟩
abbrev main_cst_34 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_35 : Ref sig .tc := ⟨.hbm, 163, rfl⟩
abbrev main_v126 : Ref sig .tc := ⟨.hbm, 164, rfl⟩
abbrev main_cst_36 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_37 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_38 : Ref sig .tc := ⟨.hbm, 178, rfl⟩
abbrev main_v138 : Ref sig .tc := ⟨.hbm, 179, rfl⟩
abbrev main_v139 : Ref sig .tc := ⟨.hbm, 180, rfl⟩
abbrev main_cst_39 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_40 : Ref sig .tc := ⟨.hbm, 186, rfl⟩
abbrev main_v144 : Ref sig .tc := ⟨.hbm, 187, rfl⟩
abbrev main_cst_41 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_42 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_43 : Ref sig .tc := ⟨.hbm, 201, rfl⟩
abbrev main_v156 : Ref sig .tc := ⟨.hbm, 202, rfl⟩
abbrev main_v157 : Ref sig .tc := ⟨.hbm, 203, rfl⟩
abbrev main_cst_44 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_45 : Ref sig .tc := ⟨.hbm, 209, rfl⟩
abbrev main_v162 : Ref sig .tc := ⟨.hbm, 210, rfl⟩
abbrev main_cst_46 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_47 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_48 : Ref sig .tc := ⟨.hbm, 224, rfl⟩
abbrev main_v174 : Ref sig .tc := ⟨.hbm, 225, rfl⟩
abbrev main_v175 : Ref sig .tc := ⟨.hbm, 226, rfl⟩
abbrev main_cst_49 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_50 : Ref sig .tc := ⟨.hbm, 232, rfl⟩
abbrev main_v180 : Ref sig .tc := ⟨.hbm, 233, rfl⟩
abbrev main_cst_51 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_52 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_53 : Ref sig .tc := ⟨.hbm, 247, rfl⟩
abbrev main_v192 : Ref sig .tc := ⟨.hbm, 248, rfl⟩
abbrev main_v193 : Ref sig .tc := ⟨.hbm, 249, rfl⟩
abbrev main_cst_54 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_55 : Ref sig .tc := ⟨.hbm, 255, rfl⟩
abbrev main_v198 : Ref sig .tc := ⟨.hbm, 256, rfl⟩
abbrev main_cst_56 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_cst_57 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_cst_58 : Ref sig .tc := ⟨.hbm, 270, rfl⟩
abbrev main_v210 : Ref sig .tc := ⟨.hbm, 271, rfl⟩
abbrev main_v211 : Ref sig .tc := ⟨.hbm, 272, rfl⟩
abbrev main_cst_59 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_cst_60 : Ref sig .tc := ⟨.hbm, 278, rfl⟩
abbrev main_v216 : Ref sig .tc := ⟨.hbm, 279, rfl⟩
abbrev main_cst_61 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_62 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_63 : Ref sig .tc := ⟨.hbm, 293, rfl⟩
abbrev main_v228 : Ref sig .tc := ⟨.hbm, 294, rfl⟩
abbrev main_v229 : Ref sig .tc := ⟨.hbm, 295, rfl⟩
abbrev main_cst_64 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_cst_65 : Ref sig .tc := ⟨.hbm, 301, rfl⟩
abbrev main_v234 : Ref sig .tc := ⟨.hbm, 302, rfl⟩
abbrev main_cst_66 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_cst_67 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_cst_68 : Ref sig .tc := ⟨.hbm, 316, rfl⟩
abbrev main_v246 : Ref sig .tc := ⟨.hbm, 317, rfl⟩
abbrev main_v247 : Ref sig .tc := ⟨.hbm, 318, rfl⟩
abbrev main_cst_69 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_cst_70 : Ref sig .tc := ⟨.hbm, 324, rfl⟩
abbrev main_v252 : Ref sig .tc := ⟨.hbm, 325, rfl⟩
abbrev main_cst_71 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_cst_72 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_cst_73 : Ref sig .tc := ⟨.hbm, 339, rfl⟩
abbrev main_v264 : Ref sig .tc := ⟨.hbm, 340, rfl⟩
abbrev main_v265 : Ref sig .tc := ⟨.hbm, 341, rfl⟩
abbrev main_cst_74 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_cst_75 : Ref sig .tc := ⟨.hbm, 347, rfl⟩
abbrev main_v270 : Ref sig .tc := ⟨.hbm, 348, rfl⟩
abbrev main_cst_76 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_cst_77 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_cst_78 : Ref sig .tc := ⟨.hbm, 362, rfl⟩
abbrev main_v282 : Ref sig .tc := ⟨.hbm, 363, rfl⟩
abbrev main_v283 : Ref sig .tc := ⟨.hbm, 364, rfl⟩
abbrev main_cst_79 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_cst_80 : Ref sig .tc := ⟨.hbm, 370, rfl⟩
abbrev main_v288 : Ref sig .tc := ⟨.hbm, 371, rfl⟩
abbrev main_cst_81 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_cst_82 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩
abbrev main_values : Ref sig .tc := ⟨.hbm, 385, rfl⟩
abbrev main_indices : Ref sig .tc := ⟨.hbm, 386, rfl⟩
abbrev main_v300 : Ref sig .tc := ⟨.hbm, 387, rfl⟩
abbrev main_v301 : Ref sig .tc := ⟨.hbm, 388, rfl⟩
abbrev main_cst_83 : Ref sig .tc := ⟨.hbm, 389, rfl⟩
abbrev main_v302 : Ref sig .tc := ⟨.hbm, 390, rfl⟩
abbrev main_c : Ref sig .tc := ⟨.hbm, 391, rfl⟩
abbrev main_v303 : Ref sig .tc := ⟨.hbm, 392, rfl⟩
abbrev main_v304 : Ref sig .tc := ⟨.hbm, 393, rfl⟩
abbrev main_c_84 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_c_85 : Ref sig .tc := ⟨.hbm, 398, rfl⟩
abbrev main_v308 : Ref sig .tc := ⟨.hbm, 399, rfl⟩
abbrev main_v309 : Ref sig .tc := ⟨.hbm, 400, rfl⟩
abbrev main_c_86 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_v314 : Ref sig .tc := ⟨.hbm, 406, rfl⟩
abbrev main_v315 : Ref sig .tc := ⟨.hbm, 407, rfl⟩
abbrev main_v316 : Ref sig .tc := ⟨.hbm, 408, rfl⟩
abbrev main_cst_87 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩

abbrev nD : Nat := 1
abbrev τ : Topo := Topo.v7x

variable {F : FTy → Type} [FloatOps F]
-- ==== Proof.Mask.lean ====
/-
  The mathematics of the relaxed selection, on the reals. A row of positive weights is turned into probabilities (each
  weight over the sum); then every weight is multiplied by one minus its probability, that factor kept at least `ε`, and
  the round begins again. Two facts about the sequence:

  * the reference keeps the logarithms of the weights, up to a constant of the row, and so sees the same probabilities
    (`softmax_eq_prob`, `keys_step`), whatever the weights;
  * when no weight is more than `R` times another, one minus a probability is at least `1 / (1 + R)` (`room`); a round
    keeps that bound (`spread_damp`), so with `ε ≤ 1 / (1 + R)` the clamp never acts, and the weights after a round
    sum to the sum before it minus the sum of the squares over the sum (`sum_damp`): the kernel's shortcut.
-/
module

public import Idealize.ShloMosaic.PureOps.Ideal.Laws

@[expose] public section

noncomputable section

namespace Cert.Mask

open Finset

variable {ι : Type} [Fintype ι]

/-- The probabilities of a row of weights. -/
def prob (u : ι → ℝ) (i : ι) : ℝ := u i / ∑ k, u k

/-- The weights that a round leaves. -/
def damp (ε : ℝ) (u : ι → ℝ) (i : ι) : ℝ := u i * max (1 - prob u i) ε

/-- The weights before round `t`. -/
def weight (ε : ℝ) (u : ι → ℝ) : ℕ → ι → ℝ
  | 0 => u
  | t + 1 => damp ε (weight ε u t)

/-- The probabilities of the rounds before `t`, added. -/
def soft (ε : ℝ) (u : ι → ℝ) (t : ℕ) (i : ι) : ℝ := ∑ k ∈ range t, prob (weight ε u k) i

/-- No weight is more than `R` times another. -/
def Spread (R : ℝ) (u : ι → ℝ) : Prop := ∀ i j, u i ≤ R * u j

theorem sum_pos [Nonempty ι] {u : ι → ℝ} (hu : ∀ i, 0 < u i) : 0 < ∑ k, u k :=
  Finset.sum_pos (fun i _ => hu i) univ_nonempty

theorem damp_pos {ε : ℝ} (hε : 0 < ε) {u : ι → ℝ} (hu : ∀ i, 0 < u i) (i : ι) : 0 < damp ε u i :=
  mul_pos (hu i) (lt_max_of_lt_right hε)

theorem weight_pos {ε : ℝ} (hε : 0 < ε) {u : ι → ℝ} (hu : ∀ i, 0 < u i) (t : ℕ) : ∀ i, 0 < weight ε u t i := by
  induction t with
  | zero => exact hu
  | succ t ih => exact damp_pos hε ih

/-- Two different weights are at most the sum. -/
theorem pair_le {u : ι → ℝ} (hu : ∀ i, 0 < u i) {i j : ι} (h : i ≠ j) : u i + u j ≤ ∑ k, u k := by
  classical
  rw [← sum_pair h]
  exact sum_le_sum_of_subset_of_nonneg (subset_univ _) fun k _ _ => (hu k).le

/-- A probability leaves room: one minus it is at least `1 / (1 + R)`. -/
theorem room [Nontrivial ι] {R : ℝ} (hR : 1 ≤ R) {u : ι → ℝ} (hu : ∀ i, 0 < u i) (hs : Spread R u) (i : ι) :
    1 / (1 + R) ≤ 1 - prob u i := by
  obtain ⟨j, hj⟩ := exists_ne i
  have hS := sum_pos hu
  have h1 := pair_le hu hj.symm
  have h2 := hs i j
  have h3 : prob u i * ∑ k, u k = u i := div_mul_cancel₀ _ hS.ne'
  have h4 : R * u j ≤ R * (∑ k, u k - u i) := mul_le_mul_of_nonneg_left (by linarith) (by linarith)
  rw [div_le_iff₀ (by linarith)]
  refine le_of_mul_le_mul_right ?_ hS
  nlinarith

/-- So the clamp does not act, … -/
theorem damp_eq [Nontrivial ι] {ε R : ℝ} (hR : 1 ≤ R) (hε : ε ≤ 1 / (1 + R)) {u : ι → ℝ} (hu : ∀ i, 0 < u i)
    (hs : Spread R u) (i : ι) : damp ε u i = u i * (1 - prob u i) := by
  rw [damp, max_eq_left (hε.trans (room hR hu hs i))]

/-- … a round keeps the bound between the weights, … -/
theorem spread_damp [Nontrivial ι] {ε R : ℝ} (hR : 1 ≤ R) (hε : ε ≤ 1 / (1 + R)) {u : ι → ℝ} (hu : ∀ i, 0 < u i)
    (hs : Spread R u) : Spread R (damp ε u) := by
  intro i j
  rw [damp_eq hR hε hu hs, damp_eq hR hε hu hs]
  have hS := sum_pos hu
  have e : ∀ k, u k * (1 - prob u k) = u k * (∑ l, u l - u k) / ∑ l, u l := fun k => by
    rw [prob]; field_simp
  rw [e, e, ← mul_div_assoc]
  refine div_le_div_of_nonneg_right ?_ hS.le
  obtain rfl | hne := eq_or_ne i j
  · have : u i ≤ ∑ l, u l := single_le_sum (f := u) (fun k _ => (hu k).le) (mem_univ i)
    nlinarith [mul_nonneg (hu i).le (sub_nonneg.mpr this)]
  · have hp := pair_le hu hne
    have hi := hu i
    have hj := hu j
    rcases le_total (u j) (u i) with h | h
    · calc u i * (∑ l, u l - u i) ≤ R * u j * (∑ l, u l - u i) :=
            mul_le_mul_of_nonneg_right (hs i j) (by linarith)
        _ ≤ R * u j * (∑ l, u l - u j) := mul_le_mul_of_nonneg_left (by linarith) (by positivity)
        _ = R * (u j * (∑ l, u l - u j)) := by ring
    · have h5 : u i * (∑ l, u l - u i) ≤ u j * (∑ l, u l - u j) := by
        nlinarith [mul_nonneg (sub_nonneg.mpr h) (sub_nonneg.mpr hp)]
      have h6 : 0 ≤ u j * (∑ l, u l - u j) := mul_nonneg hj.le (by linarith)
      nlinarith

/-- … and the weights it leaves sum to what the two sums before it give. -/
theorem sum_damp [Nontrivial ι] {ε R : ℝ} (hR : 1 ≤ R) (hε : ε ≤ 1 / (1 + R)) {u : ι → ℝ} (hu : ∀ i, 0 < u i)
    (hs : Spread R u) : ∑ k, damp ε u k = ∑ k, u k - (∑ k, u k * u k) * (1 / ∑ k, u k) := by
  rw [sum_mul, ← sum_sub_distrib]
  refine sum_congr rfl fun k _ => ?_
  rw [damp_eq hR hε hu hs, prob]
  ring

/-- The bound holds before every round. -/
theorem spread_weight [Nontrivial ι] {ε R : ℝ} (hε0 : 0 < ε) (hR : 1 ≤ R) (hε : ε ≤ 1 / (1 + R)) {u : ι → ℝ}
    (hu : ∀ i, 0 < u i) (hs : Spread R u) (t : ℕ) : Spread R (weight ε u t) := by
  induction t with
  | zero => exact hs
  | succ t ih => exact spread_damp hR hε (weight_pos hε0 hu t) ih

/-- Exponentials of numbers within `b` of zero spread by at most the exponential of `2 b`. -/
theorem spread_exp {b M : ℝ} {x : ι → ℝ} (hx : ∀ i, |x i| ≤ b) : Spread (Real.exp (2 * b)) fun i => Real.exp (x i - M) := by
  intro i j
  rw [← Real.exp_add]
  refine Real.exp_le_exp.mpr ?_
  have := (abs_le.mp (hx i)).2
  have := (abs_le.mp (hx j)).1
  linarith

/-- The softmax of keys that are logarithms of multiples of the weights is the probabilities. -/
theorem softmax_eq_prob {u key : ι → ℝ} {C M : ℝ} (hC : 0 < C) (hk : ∀ i, Real.exp (key i) = C * u i) (i : ι) :
    Real.exp (key i - M) / ∑ k, Real.exp (key k - M) = prob u i := by
  have hM := Real.exp_pos M
  have e : ∀ i, Real.exp (key i - M) = C / Real.exp M * u i := fun i => by rw [Real.exp_sub, hk]; ring
  simp only [e, ← mul_sum, prob]
  exact mul_div_mul_left _ _ (div_pos hC hM).ne'

/-- Adding the logarithm of the clamped factor to such keys makes them those of the next round. -/
theorem keys_step {ε : ℝ} (hε : 0 < ε) {u key : ι → ℝ} {C : ℝ} (hk : ∀ i, Real.exp (key i) = C * u i) (i : ι) :
    Real.exp (key i + Real.log (max (1 - prob u i) ε)) = C * damp ε u i := by
  rw [Real.exp_add, hk, Real.exp_log (lt_max_of_lt_right hε), damp, mul_assoc]

/-- `exp 80` is below `2 ^ 117`, so one over one plus it is above the least normal number. -/
theorem tiny_le : (2 : ℝ) ^ (-126 : ℤ) ≤ 1 / (1 + Real.exp (2 * 40)) := by
  have h1 : Real.exp (2 * 40) = Real.exp 1 ^ 80 := by rw [← Real.exp_nat_mul]; norm_num
  have h0 : Real.exp 1 ≤ 2.723 :=
    (Real.exp_bound' zero_le_one le_rfl (n := 3) (by norm_num)).trans (by norm_num [sum_range_succ, Nat.factorial])
  have h2 : Real.exp 1 ^ 80 ≤ 2.723 ^ 80 := pow_le_pow_left₀ (Real.exp_pos 1).le h0 80
  have h3 : (2.723 : ℝ) ^ 80 ≤ 2 ^ 117 - 1 := by norm_num
  rw [h1, le_div_iff₀ (by positivity)]
  calc (2 : ℝ) ^ (-126 : ℤ) * (1 + Real.exp 1 ^ 80) ≤ (2 : ℝ) ^ (-126 : ℤ) * 2 ^ 117 :=
        mul_le_mul_of_nonneg_left (by linarith) (by positivity)
    _ ≤ 1 := by norm_num

end Cert.Mask

end
-- ==== Proof.Recur.lean ====
/-
  What one grid point of the recurrence kernel computes, as a recursion on the block of weights: eight rounds, each of
  which makes TWO softmax-and-mask steps from one pass over the weights.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Rounds

open Idealize.ShloMosaic Idealize.ShloMosaic.TcCoe Idealize.ShloMosaic.Tactic
open Idealize.SL Idealize.SL.Sem
open Cert.KernelIdeal Cert.KernelIdeal.Gen

variable {F : FTy → Type} [FloatOps F]

/-- A block of eight rows of the arrays. -/
abbrev Blk (F : FTy → Type) [FloatOps F] := FVec F S8x100000 .f32
/-- One number for each of the eight rows. -/
abbrev Col (F : FTy → Type) [FloatOps F] := FVec F S8x1 .f32

/-- The sum of each row. -/
def rowSum (v : Blk F) : Col F :=
  shapeCast S8x1 (multiReduction .add [1] S8 v 0x00000000#32 reduces_S8x100000_S8 (.inl rfl) rfl) shapeCasts_S8_S8x1

/-- The greatest entry of each row. -/
def rowMax (v : Blk F) : Col F :=
  shapeCast S8x1 (multiReduction .maximumf [1] S8 v 0xFF800000#32 reduces_S8x100000_S8 (.inl rfl) rfl) shapeCasts_S8_S8x1

/-- One over each row's number. -/
def recip (s : Col F) : Col F := divf (broadcast S8x1 (Scalar.ofBits .f32 0x3F800000#32)) s

/-- Each entry times its row's number. -/
def scale (w : Blk F) (r : Col F) : Blk F := mulf w (broadcastTo S8x100000 r broadcasts_S8x1_S8x100000)

/-- Each weight times one minus its probability, that factor kept at least the least normal number. -/
def damp (w p : Blk F) : Blk F :=
  mulf w (maximumf (subf (broadcast S8x100000 (Scalar.ofBits .f32 0x3F800000#32)) p)
    (broadcast S8x100000 (Scalar.ofBits .f32 0x00800000#32)))

/-- The sum after a round's first step, from the sums of the weights and of their squares before it. -/
def midSum (w : Blk F) : Col F := subf (rowSum w) (mulf (rowSum (mulf w w)) (recip (rowSum w)))

/-- A round's first probabilities, … -/
def prob0 (w : Blk F) : Blk F := scale w (recip (rowSum w))
/-- … the weights they leave, … -/
def mid (w : Blk F) : Blk F := damp w (prob0 w)
/-- … its second probabilities, by the sum that no pass over the weights computed, … -/
def prob1 (w : Blk F) : Blk F := scale (mid w) (recip (midSum w))
/-- … and the weights that the round leaves. -/
def next (w : Blk F) : Blk F := damp (mid w) (prob1 w)

/-- The weights before round `n`. -/
def weights (x : Blk F) : ℕ → Blk F
  | 0 => exp (subf x (broadcastTo S8x100000 (rowMax x) broadcasts_S8x1_S8x100000))
  | n + 1 => next (weights x n)

/-- The soft selection accumulated before round `n`. -/
def soft (x : Blk F) : ℕ → Blk F
  | 0 => broadcast S8x100000 (Scalar.ofBits .f32 0x00000000#32)
  | n + 1 => addf (soft x n) (addf (prob0 (weights x n)) (prob1 (weights x n)))

/-- A grid point leaves the soft selection of eight rounds. -/
theorem out_eq (c : Dev nD) (i : grid0.Coords) (a1 : Memref sig .tc .vmem S8x100000 .f32) (h1 : a1.IsWhole)
    (a2 : Memref sig .tc .vmem S8x100000 .f32) (h2 : a2.IsWhole) (a3 : Memref sig .tc .vmem S8x100000 .f32)
    (h3 : a3.IsWhole) (x : Vec F S8x100000 .f32) : out0_A_1 c i a1 h1 a2 h2 a3 h3 x = soft x 8 := by
  frame_open
  simp (disch := decide) only [↓ View.readCov_skip, ↓ View.readCov_cons_toLoadRect, ↓ View.readCov_fill]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, shapeCast_id]
  rfl

end Cert.KernelIdeal.Rounds

end
-- ==== Proof.Rows.lean ====
/-
  The recurrence kernel's rounds at the exact values, row by row: on a row of positive weights whose spread is bounded,
  each of a round's values is the real number that the mathematics (Mask.lean) names.
-/
module

public import proofs.«01_k».proof.Proof.Mask
public import proofs.«01_k».proof.Proof.Recur
public import Idealize.ShloMosaic.Lib.Pointwise

@[expose] public section

set_option maxRecDepth 16384

noncomputable section

namespace Cert.Mask

open Idealize.ShloMosaic

/-- The word of one. -/
theorem one_word : Ideal.ofBits .f32 0x3F800000#32 = ((1 : ℝ) : EReal) := by
  simp [Ideal.ofBits, Ideal.ieee, ← EReal.coe_mul]
  norm_num

/-- The word of the least normal number. -/
theorem tiny_word : Ideal.ofBits .f32 0x00800000#32 = ((2 ^ (-126 : ℤ) : ℝ) : EReal) := by
  simp [Ideal.ofBits, Ideal.ieee, ← EReal.coe_mul]
  norm_num

/-- The word of minus infinity. -/
theorem bot_word : Ideal.ofBits .f32 0xFF800000#32 = ⊥ := by
  simp [Ideal.ofBits, Ideal.ieee]

/-- The least normal number. -/
abbrev tiny : ℝ := 2 ^ (-126 : ℤ)

theorem coe_sum {n : ℕ} (u : Fin n → ℝ) : (∑ k, (u k : EReal)) = ((∑ k, u k : ℝ) : EReal) := by
  induction n with
  | zero => simp
  | succ n ih => rw [Fin.sum_univ_succ, Fin.sum_univ_succ, ih, EReal.coe_add]

theorem coe_max (a b : ℝ) : max (a : EReal) b = ((max a b : ℝ) : EReal) :=
  (EReal.coe_strictMono.monotone.map_max).symm

theorem coe_div {a b : ℝ} (h : b ≠ 0) : Ideal.div (a : EReal) b = ((a / b : ℝ) : EReal) := by
  rw [Ideal.div_coe h, ← EReal.coe_mul, mul_one_div]

/-- The greatest of a row of real numbers, taken up from minus infinity, is a real number. -/
theorem fold_max_coe {n : ℕ} (hn : 0 < n) (u : Fin n → ℝ) :
    ∃ M : ℝ, (Finset.univ : Finset (Fin n)).fold max (⊥ : EReal) (fun k => (u k : EReal)) = M := by
  have h : ∀ s : Finset (Fin n), s.Nonempty → ∃ M : ℝ, s.fold max (⊥ : EReal) (fun k => (u k : EReal)) = M := by
    intro s hs
    induction hs using Finset.Nonempty.cons_induction with
    | singleton a => exact ⟨u a, by simp⟩
    | cons a s ha _ ih =>
      obtain ⟨M, hM⟩ := ih
      exact ⟨max (u a) M, by rw [Finset.fold_cons, hM, coe_max]⟩
  exact h _ ⟨⟨0, hn⟩, Finset.mem_univ _⟩

end Cert.Mask

namespace Cert.KernelIdeal.Rounds

open Idealize.ShloMosaic Idealize.ShloMosaic.TcCoe
open Cert.KernelIdeal Cert.KernelIdeal.Gen Cert.Mask

variable {w : Blk Ideal} {r : Fin 8} {u : Fin 100000 → ℝ}

/-- A block's row holds real numbers. -/
def Holds (w : Blk Ideal) (r : Fin 8) (u : Fin 100000 → ℝ) : Prop := ∀ j : Fin 100000, w (ix2 r j) = (u j : EReal)

theorem rowSum_apply (w : Blk Ideal) (r : Fin 8) : rowSum w (ix2 r 0) = ∑ k : Fin 100000, w (ix2 r k) := by
  pointwise [rowSum]

theorem rowMax_apply (w : Blk Ideal) (r : Fin 8) :
    rowMax w (ix2 r 0) = (Finset.univ : Finset (Fin 100000)).fold max (⊥ : EReal) fun k => w (ix2 r k) := by
  rw [← bot_word]
  pointwise [rowMax]

theorem scale_apply (w : Blk Ideal) (s : Col Ideal) (r : Fin 8) (j : Fin 100000) :
    scale w s (ix2 r j) = w (ix2 r j) * s (ix2 r 0) := by
  pointwise [scale]

theorem recip_apply (s : Col Ideal) (r : Fin 8) :
    recip s (ix2 r 0) = Ideal.div ((1 : ℝ) : EReal) (s (ix2 r 0)) := by
  rw [← one_word]
  pointwise [recip]

theorem damp_apply (w p : Blk Ideal) (r : Fin 8) (j : Fin 100000) : KernelIdeal.Rounds.damp w p (ix2 r j)
    = w (ix2 r j) * max (((1 : ℝ) : EReal) - p (ix2 r j)) (tiny : EReal) := by
  rw [← one_word, ← tiny_word]
  pointwise [KernelIdeal.Rounds.damp]

theorem sum_holds (h : Holds w r u) : rowSum w (ix2 r 0) = ((∑ k, u k : ℝ) : EReal) := by
  rw [rowSum_apply, ← coe_sum]
  exact Finset.sum_congr rfl fun k _ => h k

theorem square_holds (h : Holds w r u) : Holds (mulf w w) r fun k => u k * u k := fun j => by
  rw [EReal.coe_mul, ← h j]
  pointwise

theorem recip_holds {s : Col Ideal} {a : ℝ} (ha : a ≠ 0) (h : s (ix2 r 0) = (a : EReal)) :
    recip s (ix2 r 0) = ((1 / a : ℝ) : EReal) := by
  rw [recip_apply, h, coe_div ha]

theorem scale_holds (h : Holds w r u) {s : Col Ideal} (hs : s (ix2 r 0) = ((∑ k, u k : ℝ) : EReal))
    (h0 : ∑ k, u k ≠ 0) : Holds (scale w (recip s)) r (prob u) := fun j => by
  rw [scale_apply, h j, recip_holds h0 hs, ← EReal.coe_mul, mul_one_div]
  rfl

theorem damp_holds (h : Holds w r u) {p : Blk Ideal} (hp : Holds p r (prob u)) :
    Holds (KernelIdeal.Rounds.damp w p) r (Mask.damp tiny u) := fun j => by
  rw [damp_apply, h j, hp j, ← EReal.coe_sub, coe_max, ← EReal.coe_mul]
  rfl

/-- The bound on the spread of a row's weights. -/
abbrev R : ℝ := Real.exp (2 * 40)

theorem one_le_R : 1 ≤ R := Real.one_le_exp (by norm_num)

theorem tiny_pos : 0 < tiny := by positivity

instance : Nontrivial (Fin 100000) := ⟨⟨0, 1, by decide⟩⟩

section Round

variable (h : Holds w r u) (hu : ∀ i, 0 < u i)
include h hu

theorem prob0_holds : Holds (prob0 w) r (prob u) := scale_holds h (sum_holds h) (sum_pos hu).ne'

theorem mid_holds : Holds (mid w) r (Mask.damp tiny u) := damp_holds h (prob0_holds h hu)

variable (hs : Spread R u)
include hs

theorem midSum_holds : midSum w (ix2 r 0) = ((∑ k, Mask.damp tiny u k : ℝ) : EReal) := by
  have e : midSum w (ix2 r 0)
      = rowSum w (ix2 r 0) - rowSum (mulf w w) (ix2 r 0) * recip (rowSum w) (ix2 r 0) := by pointwise [midSum]
  rw [e, sum_holds h, sum_holds (square_holds h), recip_holds (sum_pos hu).ne' (sum_holds h), ← EReal.coe_mul,
    ← EReal.coe_sub, sum_damp one_le_R tiny_le hu hs]

theorem prob1_holds : Holds (prob1 w) r (prob (Mask.damp tiny u)) :=
  scale_holds (mid_holds h hu) (midSum_holds h hu hs) (sum_pos (damp_pos tiny_pos hu)).ne'

theorem next_holds : Holds (next w) r (Mask.damp tiny (Mask.damp tiny u)) :=
  damp_holds (mid_holds h hu) (prob1_holds h hu hs)

end Round

section Row

variable {x : Blk Ideal} (h : Holds (weights x 0) r u) (hu : ∀ i, 0 < u i) (hs : Spread R u)
include h hu hs

/-- The weights before the kernel's round `n` are the mathematics' before round `2 n`. -/
theorem weights_holds (n : ℕ) : Holds (weights x n) r (weight tiny u (2 * n)) := by
  induction n with
  | zero => exact h
  | succ n ih => exact next_holds ih (weight_pos tiny_pos hu _) (spread_weight tiny_pos one_le_R tiny_le hu hs _)

/-- What the kernel has accumulated before round `n` is the mathematics' sum of `2 n` rounds. -/
theorem soft_holds (n : ℕ) : Holds (KernelIdeal.Rounds.soft x n) r (Mask.soft tiny u (2 * n)) := by
  induction n with
  | zero =>
    intro j
    have e : KernelIdeal.Rounds.soft x 0 (ix2 r j) = 0 := by pointwise [KernelIdeal.Rounds.soft]
    rw [e]
    simp [Mask.soft]
  | succ n ih =>
    intro j
    have hw := weights_holds h hu hs n
    have hp := weight_pos tiny_pos hu (2 * n)
    have e : KernelIdeal.Rounds.soft x (n + 1) (ix2 r j) = KernelIdeal.Rounds.soft x n (ix2 r j)
        + (prob0 (weights x n) (ix2 r j) + prob1 (weights x n) (ix2 r j)) := by
      rw [KernelIdeal.Rounds.soft]
      pointwise
    rw [e, ih j, prob0_holds hw hp j, prob1_holds hw hp (spread_weight tiny_pos one_le_R tiny_le hu hs _) j,
      ← EReal.coe_add, ← EReal.coe_add]
    refine congrArg _ ?_
    rw [Mask.soft, Mask.soft, Nat.mul_succ, Finset.sum_range_succ, Finset.sum_range_succ, add_assoc]
    rfl

end Row

/-- The row's weights at the start: exponentials of the logits, the row's greatest taken off. -/
theorem start_holds {x : Blk Ideal} {r : Fin 8} {l : Fin 100000 → ℝ} (hx : Holds x r l) :
    ∃ M : ℝ, Holds (weights x 0) r fun i => Real.exp (l i - M) := by
  obtain ⟨M, hM⟩ := fold_max_coe (by norm_num) l
  refine ⟨M, fun j => ?_⟩
  have e : weights x 0 (ix2 r j) = Ideal.exp (x (ix2 r j) - rowMax x (ix2 r 0)) := by
    rw [weights]
    pointwise
  have hf : rowMax x (ix2 r 0) = (M : EReal) := by
    rw [rowMax_apply, show (fun k => x (ix2 r k)) = fun k => (l k : EReal) from funext hx, hM]
  rw [e, hf, hx j, ← EReal.coe_sub, Ideal.exp_coe]

/-- A grid point's block, on a row of logits within forty of zero: the mathematics' sum of sixteen rounds, whatever is taken
    off the logits. -/
theorem block_holds {x : Blk Ideal} {r : Fin 8} {l : Fin 100000 → ℝ} (hx : Holds x r l) (hl : ∀ i, |l i| ≤ 40) :
    ∃ M : ℝ, Holds (KernelIdeal.Rounds.soft x 8) r (Mask.soft tiny (fun i => Real.exp (l i - M)) 16) := by
  obtain ⟨M, hM⟩ := start_holds hx
  exact ⟨M, soft_holds hM (fun i => Real.exp_pos _) (spread_exp hl) 8⟩

end Cert.KernelIdeal.Rounds

end
-- ==== Proof.RefSoft.lean ====
/-
  The reference: sixteen rounds on keys. Its result, as a recursion on whole arrays, and at the exact values the
  mathematics' sum of sixteen rounds (Mask.lean), row by row.
-/
module

public import proofs.«01_k».proof.Proof.Rows
public import proofs.«01_k».proof.Proof.Gen.ReferenceIdeal

@[expose] public section

set_option maxRecDepth 16384

noncomputable section

namespace Cert.ReferenceIdeal.Rounds

open Idealize.ShloMosaic Idealize.ShloMosaic.TcCoe Idealize.SL.Sem Idealize.ShloMosaic.StableHlo
open Cert.ReferenceIdeal Cert.ReferenceIdeal.Gen

variable {F : FTy → Type} [FloatOps F]

/-- The arrays. -/
abbrev Arr (F : FTy → Type) [FloatOps F] := FVec F S128x100000 .f32

/-- A constant everywhere. -/
def splat (b : BitVec 32) : Arr F := broadcastInDim S128x100000 ![] bcast_S_S128x100000 (constant S_ .f32 b)

/-- One number for each row, along its row. -/
def along (v : FVec F S128 .f32) : Arr F :=
  broadcastInDim S128x100000 ![0, 1] bcast_S128x1_S128x100000_0_1 (broadcastInDim S128x1 ![0] bcast_S128_S128x1_0 v)

/-- The greatest entry of each row. -/
def most (k : Arr F) : FVec F S128 .f32 :=
  Host.reduce FloatOps.maximumf k (constant S_ .f32 0xFF800000#32) reducesTo_S128x100000_S128_d1 h_S_

/-- The greatest entry of each row, as the softmax writes it. -/
def top (k : Arr F) : FVec F S128 .f32 :=
  maximumf (broadcastInDim S128 ![] bcast_S_S128 (constant S_ .f32 0xFF800000#32)) (most k)

/-- The sum of each row. -/
def total (k : Arr F) : FVec F S128 .f32 :=
  Host.reduceAdd k (constant S_ .f32 0x00000000#32) reducesTo_S128x100000_S128_d1 h_S_

/-- The exponentials of keys, the row's greatest taken off. -/
def lifted (k : Arr F) : Arr F := Host.exp (subf k (along (top k)))

/-- The softmax of each row. -/
def softmax (k : Arr F) : Arr F := Host.divf (lifted k) (along (total (lifted k)))

/-- The logits, the row's greatest taken off. -/
def shifted (x : Arr F) : Arr F := subf x (along (most x))

/-- The logarithm of the softmax of each row. -/
def logSoftmax (x : Arr F) : Arr F :=
  subf (shifted x) (broadcastInDim S128x100000 ![0, 1] bcast_S128x1_S128x100000_0_1
    (Host.log (broadcastInDim S128x1 ![0] bcast_S128_S128x1_0 (total (Host.exp (shifted x))))))

/-- The keys, those of high probability `p` lowered. -/
def lower (k p : Arr F) : Arr F := addf k (Host.log (maximumf (subf (splat 0x3F800000#32) p) (splat 0x00800000#32)))

/-- The keys of round `n`. -/
def keys (x : Arr F) : ℕ → Arr F
  | 0 => lower (logSoftmax x) (splat 0x00000000#32)
  | n + 1 => lower (keys x n) (softmax (keys x n))

/-- The soft selection accumulated before round `n`. -/
def khot (x : Arr F) : ℕ → Arr F
  | 0 => splat 0x00000000#32
  | n + 1 => addf (khot x n) (softmax (keys x n))

/-! ## At the exact values -/

section AtIdeal

open Cert.Mask
open Cert.KernelIdeal.Rounds (tiny_pos)

variable {k x : Arr Ideal} {r : Fin 128} {u l : Fin 100000 → ℝ}

/-- An array's row holds real numbers. -/
def Holds (k : Arr Ideal) (r : Fin 128) (u : Fin 100000 → ℝ) : Prop := ∀ j : Fin 100000, k (ix2 r j) = (u j : EReal)

theorem along_apply (v : FVec Ideal S128 .f32) (r : Fin 128) (j : Fin 100000) : along v (ix2 r j) = v (ix1 r) := by
  pointwise [along]

theorem total_apply (k : Arr Ideal) (r : Fin 128) : total k (ix1 r) = ∑ j : Fin 100000, k (ix2 r j) := by
  pointwise [total]

theorem most_apply (k : Arr Ideal) (r : Fin 128) :
    most k (ix1 r) = (Finset.univ : Finset (Fin 100000)).fold max (⊥ : EReal) fun j => k (ix2 r j) := by
  rw [← bot_word]
  pointwise [most]

theorem bot_max_apply (v : FVec Ideal S128 .f32) (r : Fin 128) :
    maximumf (broadcastInDim S128 ![] bcast_S_S128 (constant S_ .f32 0xFF800000#32)) v (ix1 r)
      = max (Ideal.ofBits .f32 0xFF800000#32) (v (ix1 r)) := by
  pointwise

theorem top_apply (k : Arr Ideal) (r : Fin 128) : top k (ix1 r) = max (⊥ : EReal) (most k (ix1 r)) := by
  rw [top, bot_max_apply, bot_word]

theorem lower_apply (k p : Arr Ideal) (r : Fin 128) (j : Fin 100000) : lower k p (ix2 r j)
    = k (ix2 r j) + Ideal.log (max (((1 : ℝ) : EReal) - p (ix2 r j)) (tiny : EReal)) := by
  rw [← one_word, ← tiny_word]
  pointwise [lower, splat]

theorem most_holds (h : Holds k r u) : ∃ M : ℝ, most k (ix1 r) = (M : EReal) := by
  obtain ⟨M, hM⟩ := fold_max_coe (by norm_num) u
  exact ⟨M, by rw [most_apply, show (fun j => k (ix2 r j)) = fun j => (u j : EReal) from funext h, hM]⟩

theorem total_holds (h : Holds k r u) : total k (ix1 r) = ((∑ j, u j : ℝ) : EReal) := by
  rw [total_apply, ← coe_sum]
  exact Finset.sum_congr rfl fun j _ => h j

/-- The softmax of a row of real keys is the exponentials over their sum, some number taken off first. -/
theorem softmax_holds (h : Holds k r u) :
    ∃ M : ℝ, Holds (softmax k) r fun i => Real.exp (u i - M) / ∑ j, Real.exp (u j - M) := by
  obtain ⟨M, hM⟩ := most_holds h
  have ht : top k (ix1 r) = (M : EReal) := by rw [top_apply, hM, max_eq_right bot_le]
  have hl : Holds (lifted k) r fun i => Real.exp (u i - M) := fun j => by
    have e : lifted k (ix2 r j) = Ideal.exp (k (ix2 r j) - along (top k) (ix2 r j)) := by
      rw [lifted]
      pointwise
    rw [e, along_apply, ht, h j, ← EReal.coe_sub, Ideal.exp_coe]
  refine ⟨M, fun j => ?_⟩
  have e : softmax k (ix2 r j) = Ideal.div (lifted k (ix2 r j)) (along (total (lifted k)) (ix2 r j)) := by
    rw [softmax]
    pointwise
  rw [e, along_apply, total_holds hl, hl j, coe_div (sum_pos fun i => Real.exp_pos _).ne']

/-- The logarithm of the softmax of a row of logits is the logits, some number taken off. -/
theorem logSoftmax_holds (h : Holds x r l) : ∃ M : ℝ, Holds (logSoftmax x) r fun i => l i - M := by
  obtain ⟨M, hM⟩ := most_holds h
  have hs : Holds (shifted x) r fun i => l i - M := fun j => by
    have e : shifted x (ix2 r j) = x (ix2 r j) - along (most x) (ix2 r j) := by
      rw [shifted]
      pointwise
    rw [e, along_apply, hM, h j, ← EReal.coe_sub]
  have he : Holds (Host.exp (shifted x)) r fun i => Real.exp (l i - M) := fun j => by
    have e : Host.exp (shifted x) (ix2 r j) = Ideal.exp (shifted x (ix2 r j)) := by pointwise
    rw [e, hs j, Ideal.exp_coe]
  refine ⟨M + Real.log (∑ j, Real.exp (l j - M)), fun j => ?_⟩
  have e : logSoftmax x (ix2 r j)
      = shifted x (ix2 r j) - Ideal.log (total (Host.exp (shifted x)) (ix1 r)) := by
    rw [logSoftmax]
    pointwise
  have hp : 0 < ∑ j, Real.exp (l j - M) := sum_pos fun i => Real.exp_pos _
  rw [e, total_holds he, hs j, Ideal.log_coe, if_neg hp.not_ge, ← EReal.coe_sub, sub_sub]

/-- Lowering real keys by real probabilities. -/
theorem lower_holds {p : Arr Ideal} {q : Fin 100000 → ℝ} (hk : Holds k r u) (hp : Holds p r q) :
    Holds (lower k p) r fun i => u i + Real.log (max (1 - q i) tiny) := fun j => by
  rw [lower_apply, hk j, hp j, ← EReal.coe_sub, coe_max, Ideal.log_coe,
    if_neg (lt_max_of_lt_right tiny_pos).not_ge, ← EReal.coe_add]

variable (M : ℝ) (h : Holds x r l)
include h

/-- The keys of round `n` are the logarithms of a multiple of the mathematics' weights, … -/
theorem keys_holds (n : ℕ) : ∃ (q : Fin 100000 → ℝ) (C : ℝ), 0 < C ∧ Holds (keys x n) r q
    ∧ ∀ i, Real.exp (q i) = C * weight tiny (fun i => Real.exp (l i - M)) n i := by
  induction n with
  | zero =>
    obtain ⟨N, hN⟩ := logSoftmax_holds h
    have h0 : Holds (splat 0x00000000#32) r fun _ => 0 := fun j => by
      rw [EReal.coe_zero]
      pointwise [splat]
    refine ⟨_, Real.exp (M - N), Real.exp_pos _, lower_holds hN h0, fun i => ?_⟩
    have : max (1 - 0 : ℝ) tiny = 1 := by
      rw [sub_zero]
      exact max_eq_left (zpow_le_one_of_nonpos₀ (by norm_num) (by norm_num))
    rw [this, Real.log_one, add_zero, weight, ← Real.exp_add]
    ring_nf
  | succ n ih =>
    obtain ⟨q, C, hC, hq, he⟩ := ih
    obtain ⟨N, hN⟩ := softmax_holds hq
    simp only [softmax_eq_prob hC he] at hN
    exact ⟨_, C, hC, lower_holds hq hN, keys_step tiny_pos he⟩

/-- … so its softmax is their probabilities, … -/
theorem prob_holds (n : ℕ) : Holds (softmax (keys x n)) r (prob (weight tiny (fun i => Real.exp (l i - M)) n)) := by
  obtain ⟨q, C, hC, hq, he⟩ := keys_holds M h n
  obtain ⟨N, hN⟩ := softmax_holds hq
  simp only [softmax_eq_prob hC he] at hN
  exact hN

/-- … and the reference accumulates the mathematics' sum. -/
theorem khot_holds (n : ℕ) : Holds (khot x n) r (Mask.soft tiny (fun i => Real.exp (l i - M)) n) := by
  induction n with
  | zero =>
    intro j
    have e : khot x 0 (ix2 r j) = 0 := by pointwise [khot, splat]
    rw [e]
    simp [Mask.soft]
  | succ n ih =>
    intro j
    have e : khot x (n + 1) (ix2 r j) = khot x n (ix2 r j) + softmax (keys x n) (ix2 r j) := by
      rw [khot]
      pointwise
    rw [e, ih j, prob_holds M h n j, ← EReal.coe_add, Mask.soft, Mask.soft, Finset.sum_range_succ]

end AtIdeal

end Cert.ReferenceIdeal.Rounds

end
-- ==== Proof.RefRun.lean ====
/-
  The reference's run, its result written as the recursion of RefSoft.lean.
-/
module

public import proofs.«01_k».proof.Proof.RefSoft
public import proofs.«01_k».proof.Proof.Gen.ReferenceIdeal.Run

@[expose] public section

set_option maxRecDepth 16384

noncomputable section

namespace Cert.ReferenceIdeal.Rounds

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The reference's run: its result is the soft selection of sixteen rounds. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v299) = khot (m ((c.tc : Thread nD τ).loc main_arg0)) 16
      ∧ r.2.mem ((c.tc : Thread nD τ).loc main_arg0) = m ((c.tc : Thread nD τ).loc main_arg0) :=
  Value.run m ρ

end Cert.ReferenceIdeal.Rounds

end
-- ==== Proof.Assembly.lean ====
/-
  The two programs meet: what the precondition says of the logits, the kernel's result array block by block, and the
  claims.
-/
module

public import proofs.«01_k».proof.Defs
public import proofs.«01_k».proof.Proof.RefRun
public import proofs.«01_k».proof.Proof.Gen.KernelIdeal.Value
public import proofs.«01_k».proof.Proof.Gen.Pre_bounded
public import Idealize.ShloMosaic.Lib.Pipeline.ValueKit
public import Idealize.ShloMosaic.Lib.Quiescent

@[expose] public section

set_option maxRecDepth 16384

noncomputable section

open Idealize.ShloMosaic Idealize.ShloMosaic.TcCoe Idealize.ShloMosaic.Tactic
open Idealize.SL Idealize.SL.Sem

namespace Cert.SoftClaims

/-- An extended real within forty of zero is a real number. -/
theorem real_of_bounds {e : EReal} (hu : e ≤ ((40 : ℝ) : EReal)) (hd : -e ≤ ((40 : ℝ) : EReal)) :
    ∃ l : ℝ, e = (l : EReal) ∧ |l| ≤ 40 := by
  induction e using EReal.rec with
  | bot => simp at hd
  | top => simp at hu
  | coe l =>
    rw [← EReal.coe_neg, EReal.coe_le_coe_iff] at hd
    exact ⟨l, rfl, abs_le.mpr ⟨by linarith, EReal.coe_le_coe_iff.mp hu⟩⟩

/-- Where the precondition holds, every logit is a real number within forty of zero. -/
theorem logits_real (x : FVec Ideal Cert.Pre_bounded.S128x100000 .f32) (h : Cert.Pre_bounded.fn (F := Ideal) x = fun _ => 1#1)
    (i : Cert.Pre_bounded.S128x100000.Idx) : ∃ l : ℝ, x i = (l : EReal) ∧ |l| ≤ 40 := by
  have hw : Ideal.ofBits .f32 0x42200000#32 = ((40 : ℝ) : EReal) := by
    simp [Ideal.ofBits, Ideal.ieee, ← EReal.coe_mul]
    norm_num
  have h1 : Ideal.cmp .ole (max (x i) (-(x i))) (Ideal.ofBits .f32 0x42200000#32) = 1#1 := congrFun h i
  have h2 : max (x i) (-(x i)) ≤ ((40 : ℝ) : EReal) := by
    rw [hw] at h1
    by_contra hc
    simp [Ideal.cmp, hc] at h1
  have h3 : x i ≤ ((40 : ℝ) : EReal) := (le_max_left _ _).trans h2
  have h4 : -(x i) ≤ ((40 : ℝ) : EReal) := (le_max_right _ _).trans h2
  exact real_of_bounds h3 h4

variable (m : (ℓ : Loc Cert.KernelIdeal.nD Cert.KernelIdeal.τ Cert.KernelIdeal.sig) → Buf (Elt Ideal) ℓ)

section Kernel

open Cert.KernelIdeal Cert.KernelIdeal.Gen

/-- Row `r` of the block that point `t` loads is row `8 t + r` of the logits. -/
theorem iblk_row (c : Dev nD) (t : Fin cfg0.N) (r : Fin 8) (R : Fin 128) (hR : R.val = 8 * t.val + r.val) (j : Fin 100000) :
    (iblk m c 0 t : Vec Ideal S8x100000 .f32) (ix2 r j) = m ((c : Thread nD τ).loc main_arg0) (ix2 R j) := by
  have idx : ∀ t : Fin grid0.N, win0_0.index t = ![t.val, 0] := by decide +kernel
  blk_ext [iblk, V, idx t]

/-- Where point `t` writes row `r` of its block. -/
theorem emb_row (t : Fin cfg0.N) (r : Fin 8) (R : Fin 128) (hR : R.val = 8 * t.val + r.val) (j : Fin 100000) :
    ((win0_1.blk t).view.emb (ix2 r j) : S128x100000.Idx) = ix2 R j := by
  have idx : ∀ t : Fin grid0.N, win0_1.index t = ![t.val, 0] := by decide +kernel
  blk_ext [idx t]

/-- The kernel's result array, where the logits are bounded: the reference's soft selection. -/
theorem result_eq (h : Cert.Pre_KernelIdeal_bounded m) (c : Dev nD) : (dats m 0 c).arrAt 1 cfg0.N
    = Cert.ReferenceIdeal.Rounds.khot (F := Ideal) (m ((c : Thread nD τ).loc main_arg0)) 16 := by
  refine (dats m 0 c).arrAt_eq_of_covers 1 _ (by decide +kernel) fun t hf y => ?_
  blk_simp
  rw [after0_1]
  simp only [outsAt0]
  rw [Cert.KernelIdeal.Rounds.out_eq]
  obtain ⟨r, j, rfl⟩ : ∃ (r : Fin 8) (j : Fin 100000), y = ix2 r j := ⟨_, _, eq_ix2 y⟩
  have ht : t.val < 16 := t.isLt
  let R : Fin 128 := ⟨8 * t.val + r.val, by omega⟩
  choose l hl hb using fun j => logits_real _ (h c) (ix2 R j)
  obtain ⟨M, hM⟩ := Cert.KernelIdeal.Rounds.block_holds (x := iblk m c 0 t) (r := r)
    (fun j => (iblk_row m c t r R rfl j).trans (hl j)) hb
  have hk := Cert.ReferenceIdeal.Rounds.khot_holds (x := m ((c : Thread nD τ).loc main_arg0)) M hl 16
  rw [emb_row t r R rfl j]
  exact (hM j).trans (hk j).symm

end Kernel

/-- The reference, with what its arguments and semaphores end at. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
      ∧ r.2.sem = fun _ => 0 :=
  (θ_run Cert.ReferenceIdeal.defs _ _).mono
    (fun r h => ⟨fun c => (h c).2, sem_eq_zero_of_no_sems (by decide) r.2⟩) (Cert.ReferenceIdeal.Rounds.run m ρ)

end Cert.SoftClaims

end
-- ==== Proof.Recur2.lean ====
/-
  What one grid point of the simpler kernel computes: sixteen rounds on the block of weights, each with a sum of its own, and
  then sixteen times the greatest entry of what is left of the soft selection, the first of equal ones.
-/
module

public import proofs.«01_k».proof.Proof.Recur
public import proofs.«01_k».proof.Proof.Gen.Kernel2Ideal.Value

@[expose] public section

set_option maxRecDepth 65536

noncomputable section

namespace Cert.Kernel2Ideal.Rounds

open Idealize.ShloMosaic Idealize.ShloMosaic.TcCoe Idealize.ShloMosaic.Tactic
open Idealize.SL Idealize.SL.Sem
open Cert.Kernel2Ideal Cert.Kernel2Ideal.Gen
open Cert.KernelIdeal.Rounds (Blk Col prob0 mid rowMax)

variable {F : FTy → Type} [FloatOps F]

/-- The weights before round `n`. -/
def weights (x : Blk F) : ℕ → Blk F
  | 0 => Cert.KernelIdeal.Rounds.weights x 0
  | n + 1 => mid (weights x n)

/-- The soft selection accumulated before round `n`. -/
def soft (x : Blk F) : ℕ → Blk F
  | 0 => broadcast S8x100000 (Scalar.ofBits .f32 0x00000000#32)
  | n + 1 => addf (soft x n) (prob0 (weights x n))

/-- Each place's number in its row. -/
def place : IVec S8x100000 32 := iota .tc S8x100000 32 [1] iota_S8x100000_d1_w32

/-- Each row's first place of a greatest entry. -/
def first (v : Blk F) : IVec S8x1 32 :=
  shapeCast S8x1 (multiReductionI .minsi [1] S8
    (select (cmpf .oeq v (broadcastTo S8x100000 (rowMax v) broadcasts_S8x1_S8x100000)) place (broadcast S8x100000 100000#32))
    2147483647#32 reduces_S8x100000_S8 rfl) shapeCasts_S8_S8x1

/-- The mark of that place. -/
def mark (v : Blk F) : IVec S8x100000 1 := cmpi .eq place (broadcastTo S8x100000 (first v) broadcasts_S8x1_S8x100000)

/-- The entries with the marked one struck out. -/
def strike (v : Blk F) : Blk F :=
  select (mark v) (broadcast S8x100000 (Scalar.ofBits .f32 0xFF800000#32)) v

/-- What is left of the entries after `n` strikes. -/
def left (v : Blk F) : ℕ → Blk F
  | 0 => v
  | n + 1 => strike (left v n)

/-- The marks of the first `n` strikes, added up. -/
def hard (v : Blk F) : ℕ → Blk F
  | 0 => broadcast S8x100000 (Scalar.ofBits .f32 0x00000000#32)
  | n + 1 => addf (hard v n) (sitofp .f32 (extui 32 (mark (left v n)) natLt_1_32))

/-- The second array that a grid point leaves: the soft selection of sixteen rounds. -/
theorem soft_eq (c : Dev nD) (i : grid0.Coords) (a1 : Memref sig .tc .vmem S8x100000 .f32) (h1 : a1.IsWhole)
    (a2 : Memref sig .tc .vmem S8x100000 .f32) (h2 : a2.IsWhole) (a3 : Memref sig .tc .vmem S8x100000 .f32)
    (h3 : a3.IsWhole) (a4 : Memref sig .tc .vmem S8x100000 .f32) (h4 : a4.IsWhole) (x : Vec F S8x100000 .f32) :
    out0_A_2 c i a1 h1 a2 h2 a3 h3 a4 h4 x = soft x 16 := by
  frame_open
  simp (disch := decide) only [↓ View.readCov_skip, ↓ View.readCov_cons_toLoadRect, ↓ View.readCov_fill]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, shapeCast_id]
  rfl

/-- The first: the marks of sixteen strikes, the soft selection taken off and added again. -/
theorem hard_eq (c : Dev nD) (i : grid0.Coords) (a1 : Memref sig .tc .vmem S8x100000 .f32) (h1 : a1.IsWhole)
    (a2 : Memref sig .tc .vmem S8x100000 .f32) (h2 : a2.IsWhole) (a3 : Memref sig .tc .vmem S8x100000 .f32)
    (h3 : a3.IsWhole) (a4 : Memref sig .tc .vmem S8x100000 .f32) (h4 : a4.IsWhole) (x : Vec F S8x100000 .f32) :
    out0_A_1 c i a1 h1 a2 h2 a3 h3 a4 h4 x
      = addf (subf (hard (soft x 16) 16) (soft x 16)) (soft x 16) := by
  frame_open
  simp (disch := decide) only [↓ View.readCov_skip, ↓ View.readCov_cons_toLoadRect, ↓ View.readCov_fill]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, shapeCast_id]
  rfl

end Cert.Kernel2Ideal.Rounds

end
-- ==== Proof.Pick.lean ====
/-
  Picking the greatest of a row of numbers again and again, the first of equal ones: the places picked, and that a sort of
  the row, greatest first, equal ones in their order, begins with them.
-/
module

public import Idealize.ShloMosaic.Lib.SortPrefix
public import Mathlib.Data.Real.Basic
public import Mathlib.Data.Fintype.Card

@[expose] public section

noncomputable section

namespace Cert.Pick

open Idealize.ShloMosaic

variable {n : ℕ} {v : Fin n → ℝ}

/-- Place `i` comes before place `j`: its number is greater, or as great and the place is earlier. -/
def Ahead (v : Fin n → ℝ) (i j : Fin n) : Prop := v j < v i ∨ (v i = v j ∧ i < j)

theorem ahead_asymm {i j : Fin n} (h : Ahead v i j) : ¬ Ahead v j i := by
  rintro (h' | ⟨e', l'⟩) <;> rcases h with h | ⟨e, l⟩
  · exact lt_asymm h h'
  · exact h'.ne' e.symm
  · exact h.ne' e'.symm
  · exact lt_asymm l l'

theorem ahead_trans {i j k : Fin n} (h : Ahead v i j) (h' : Ahead v j k) : Ahead v i k := by
  rcases h with h | ⟨e, l⟩ <;> rcases h' with h' | ⟨e', l'⟩
  · exact Or.inl (h'.trans h)
  · exact Or.inl (e' ▸ h)
  · exact Or.inl (e ▸ h')
  · exact Or.inr ⟨e.trans e', l.trans l'⟩

theorem ahead_total {i j : Fin n} (h : i ≠ j) : Ahead v i j ∨ Ahead v j i := by
  rcases lt_trichotomy (v i) (v j) with l | e | l
  · exact Or.inr (Or.inl l)
  · exact (lt_or_gt_of_ne h).imp (fun l => Or.inr ⟨e, l⟩) fun l => Or.inr ⟨e.symm, l⟩
  · exact Or.inl (Or.inl l)

/-- Place `i` is the one to pick where the places of `S` are out. -/
def Best (v : Fin n → ℝ) (S : Finset (Fin n)) (i : Fin n) : Prop := i ∉ S ∧ ∀ j, j ∉ S → j ≠ i → Ahead v i j

theorem exists_best (v : Fin n → ℝ) {S : Finset (Fin n)} (hS : S ≠ Finset.univ) : ∃ i, Best v S i := by
  classical
  have hne : (Finset.univ \ S).Nonempty := by
    rw [Finset.sdiff_nonempty]
    exact fun h => hS (Finset.univ_subset_iff.mp h)
  obtain ⟨a, ha, hmax⟩ := Finset.exists_max_image _ v hne
  have ht : ((Finset.univ \ S).filter fun j => v j = v a).Nonempty := ⟨a, Finset.mem_filter.mpr ⟨ha, rfl⟩⟩
  obtain ⟨b, hb, hle⟩ : ∃ b ∈ (Finset.univ \ S).filter fun j => v j = v a,
      ∀ j ∈ (Finset.univ \ S).filter fun j => v j = v a, b ≤ j :=
    ⟨_, Finset.min'_mem _ ht, fun j hj => Finset.min'_le _ j hj⟩
  obtain ⟨hb1, hb2⟩ := Finset.mem_filter.mp hb
  refine ⟨b, (Finset.mem_sdiff.mp hb1).2, fun j hj hne => ?_⟩
  have hjm : j ∈ Finset.univ \ S := Finset.mem_sdiff.mpr ⟨Finset.mem_univ _, hj⟩
  rcases (hmax j hjm).lt_or_eq with h | h
  · exact Or.inl (hb2 ▸ h)
  · exact Or.inr ⟨hb2.trans h.symm, lt_of_le_of_ne (hle j (Finset.mem_filter.mpr ⟨hjm, h⟩)) hne.symm⟩

theorem best_unique {S : Finset (Fin n)} {i j : Fin n} (hi : Best v S i) (hj : Best v S j) : i = j := by
  by_contra h
  exact ahead_asymm (hi.2 j hj.1 (Ne.symm h)) (hj.2 i hi.1 h)

section Row

variable [NeZero n] (v)

/-- The place to pick where the places of `S` are out. -/
def pick (S : Finset (Fin n)) : Fin n := by
  classical exact if h : ∃ i, Best v S i then h.choose else 0

theorem pick_best {S : Finset (Fin n)} (hS : S ≠ Finset.univ) : Best v S (pick v S) := by
  have h := exists_best v hS
  rw [pick, dif_pos h]
  exact h.choose_spec

/-- The places picked in the first `t` picks. -/
def picked : ℕ → Finset (Fin n)
  | 0 => ∅
  | t + 1 => insert (pick v (picked t)) (picked t)

theorem picked_ne {t : ℕ} (ht : t < n) : picked v t ≠ Finset.univ := by
  have hc : ∀ t, (picked v t).card ≤ t := fun t => by
    induction t with
    | zero => rfl
    | succ t ih => exact (Finset.card_insert_le _ _).trans (Nat.succ_le_succ ih)
  intro h
  have := hc t
  rw [h, Finset.card_univ, Fintype.card_fin] at this
  omega

theorem picked_mono {s t : ℕ} (h : s ≤ t) : picked v s ⊆ picked v t := by
  induction h with
  | refl => exact Finset.Subset.refl _
  | step _ ih => exact ih.trans (Finset.subset_insert _ _)

theorem mem_picked {t : ℕ} {i : Fin n} : i ∈ picked v t ↔ ∃ s < t, pick v (picked v s) = i := by
  induction t with
  | zero => simp [picked]
  | succ t ih =>
    rw [picked, Finset.mem_insert, ih]
    constructor
    · rintro (rfl | ⟨s, hs, e⟩)
      · exact ⟨t, Nat.lt_succ_self t, rfl⟩
      · exact ⟨s, hs.trans (Nat.lt_succ_self t), e⟩
    · rintro ⟨s, hs, e⟩
      rcases Nat.lt_succ_iff_lt_or_eq.mp hs with h | rfl
      · exact Or.inr ⟨s, h, e⟩
      · exact Or.inl e.symm

/-- The earlier pick comes before the later. -/
theorem pick_ahead {s t : ℕ} (h : s < t) (ht : t < n) : Ahead v (pick v (picked v s)) (pick v (picked v t)) := by
  have hb := pick_best v (picked_ne v ht)
  refine (pick_best v (picked_ne v (h.trans ht))).2 _ (fun hm => hb.1 (picked_mono v h.le hm)) fun e => hb.1 ?_
  exact (mem_picked v).mpr ⟨s, h, e.symm⟩

/-- A sort of the places, greatest number first and equal ones in their order, has pick `i` at place `i`. -/
theorem sorted_eq_pick (gt : Fin n → Fin n → Bool) (hgt : ∀ i j, gt i j = true ↔ v j < v i) {k : ℕ} (hk : k ≤ n) (i : Fin k) :
    sortedFrom gt (i.castLE hk) = pick v (picked v i) := by
  classical
  have hB : StrictTotalBefore fun i j : Fin n => decide (Ahead v i j) :=
    ⟨fun a => decide_eq_false fun h => ahead_asymm h h,
      fun a b c h h' => decide_eq_true (ahead_trans (of_decide_eq_true h) (of_decide_eq_true h')),
      fun a b h => (ahead_total h).imp decide_eq_true decide_eq_true⟩
  have hins : ∀ (a : Fin n) (l : List (Fin n)), (∀ b ∈ l, a < b) →
      insertBefore gt a l = insertBefore (fun i j => decide (Ahead v i j)) a l := by
    intro a l hl
    refine insertBefore_congr _ _ _ _ fun b hb => ?_
    rw [Bool.eq_iff_iff, hgt, decide_eq_true_iff]
    exact ⟨Or.inl, fun h => h.resolve_right fun h' => lt_asymm h'.2 (hl b hb)⟩
  have hsort : ∀ l : List (Fin n), l.Pairwise (· < ·) →
      stableSort gt l = stableSort (fun i j => decide (Ahead v i j)) l := by
    intro l hl
    induction l with
    | nil => rfl
    | cons a l ih =>
      obtain ⟨ha, hl⟩ := List.pairwise_cons.mp hl
      rw [stableSort, stableSort, ih hl]
      exact hins a _ fun b hb => ha b ((perm_stableSort _ l).mem_iff.mp hb)
  have hpos : sortPositions n gt = sortPositions n fun i j => decide (Ahead v i j) :=
    hsort _ (List.pairwise_lt_finRange n)
  have hfrom : sortedFrom gt = sortedFrom fun i j : Fin n => decide (Ahead v i j) := by
    funext q
    unfold sortedFrom
    exact List.get_of_eq hpos _
  rw [hfrom]
  refine hB.sortedFrom_eq_of_prefix hk (fun i : Fin k => pick v (picked v i)) ?_ ?_ ?_ i
  · intro i j e
    have e : pick v (picked v i) = pick v (picked v j) := e
    by_contra h
    rcases lt_or_gt_of_ne h with h | h
    · have := pick_ahead v h (j.isLt.trans_le hk)
      rw [e] at this
      exact ahead_asymm this this
    · have := pick_ahead v h (i.isLt.trans_le hk)
      rw [e] at this
      exact ahead_asymm this this
  · exact fun i j h => decide_eq_false (ahead_asymm (pick_ahead v h (j.isLt.trans_le hk)))
  · intro i p hp
    refine decide_eq_false (ahead_asymm ((pick_best v (picked_ne v (i.isLt.trans_le hk))).2 p ?_ (hp i).symm))
    rw [mem_picked]
    rintro ⟨s, hs, e⟩
    exact hp ⟨s, hs.trans i.isLt⟩ e

end Row

end Cert.Pick

end
-- ==== Proof.Rows2.lean ====
/-
  The simpler kernel at the exact values, row by row: its soft selection is the mathematics' sum of as many rounds, and the
  places that it marks are those that Pick.lean names.
-/
module

public import proofs.«01_k».proof.Proof.Recur2
public import proofs.«01_k».proof.Proof.Rows
public import proofs.«01_k».proof.Proof.Pick
public import Idealize.ShloMosaic.Lib.SortNet.Extract

@[expose] public section

set_option maxRecDepth 16384

noncomputable section

namespace Cert.Pick

open Idealize.ShloMosaic

/-- A row of numbers with the places of `S` put to minus infinity. -/
def without {n : ℕ} (v : Fin n → ℝ) (S : Finset (Fin n)) (j : Fin n) : EReal := if j ∈ S then ⊥ else (v j : EReal)

/-- Where the places of `S` are out, no number is above that of the best place, … -/
theorem without_le {n : ℕ} {v : Fin n → ℝ} {S : Finset (Fin n)} {i : Fin n} (h : Best v S i) (j : Fin n) :
    without v S j ≤ v i := by
  by_cases hj : j ∈ S
  · rw [without, if_pos hj]
    exact bot_le
  · rw [without, if_neg hj, EReal.coe_le_coe_iff]
    by_cases e : j = i
    · rw [e]
    · rcases h.2 j hj e with h | h
      · exact h.le
      · exact h.1.ge

/-- … and no earlier place has the same. -/
theorem best_le {n : ℕ} {v : Fin n → ℝ} {S : Finset (Fin n)} {i : Fin n} (h : Best v S i) {j : Fin n}
    (hj : without v S j = v i) : i ≤ j := by
  by_cases hS : j ∈ S
  · rw [without, if_pos hS] at hj
    exact absurd hj (EReal.bot_ne_coe _)
  · rw [without, if_neg hS, EReal.coe_eq_coe_iff] at hj
    by_contra hc
    have e : j ≠ i := fun e => hc e.ge
    rcases h.2 j hS e with h | h
    · exact h.ne hj
    · exact hc h.2.le

theorem max_without {n : ℕ} {v : Fin n → ℝ} {S : Finset (Fin n)} {i : Fin n} (h : Best v S i) :
    (Finset.univ : Finset (Fin n)).fold max (⊥ : EReal) (without v S) = v i := by
  refine le_antisymm (Finset.fold_max_le _ |>.mpr ⟨bot_le, fun j _ => without_le h j⟩) ?_
  rw [Finset.le_fold_max]
  exact Or.inr ⟨i, Finset.mem_univ _, by rw [without, if_neg h.1]⟩

/-- The signed least of a family of words, from a word not below any. -/
theorem fold_minsi {n : ℕ} (g : Fin n → BitVec 32) (z : BitVec 32) (i : Fin n) (hz : (g i).toInt ≤ z.toInt)
    (hg : ∀ j, (g i).toInt ≤ (g j).toInt) : (Finset.univ : Finset (Fin n)).fold IntOp.minsi z g = g i := by
  have key : ∀ s : Finset (Fin n), (g i).toInt ≤ (s.fold IntOp.minsi z g).toInt
      ∧ (i ∈ s → s.fold IntOp.minsi z g = g i) := by
    intro s
    induction s using Finset.induction_on with
    | empty => exact ⟨hz, fun h => absurd h (Finset.notMem_empty i)⟩
    | insert a s ha ih =>
      rw [Finset.fold_insert ha]
      have hm := SortNet.toInt_minsi (g a) (s.fold IntOp.minsi z g)
      refine ⟨hm ▸ le_min (hg a) ih.1, fun hi => BitVec.eq_of_toInt_eq ?_⟩
      rcases Finset.mem_insert.mp hi with e | hi
      · rw [hm, ← e, min_eq_left ih.1]
      · rw [hm, ih.2 hi, min_eq_right (hg a)]
  exact (key _).2 (Finset.mem_univ i)

end Cert.Pick

namespace Cert.Kernel2Ideal.Rounds

open Idealize.ShloMosaic Idealize.ShloMosaic.TcCoe
open Cert.Kernel2Ideal Cert.Kernel2Ideal.Gen Cert.Mask Cert.Pick
open Cert.KernelIdeal.Rounds (Blk Col prob0 mid rowMax Holds rowMax_apply start_holds prob0_holds mid_holds tiny_pos)

variable {x v : Blk Ideal} {r : Fin 8} {u : Fin 100000 → ℝ}

section Soft

variable (h : Holds (weights x 0) r u) (hu : ∀ i, 0 < u i)
include h hu

/-- The weights before round `n`. -/
theorem weights_holds (n : ℕ) : Holds (weights x n) r (weight tiny u n) := by
  induction n with
  | zero => exact h
  | succ n ih => exact mid_holds ih (weight_pos tiny_pos hu _)

/-- What is accumulated before round `n`. -/
theorem soft_holds (n : ℕ) : Holds (Kernel2Ideal.Rounds.soft x n) r (Mask.soft tiny u n) := by
  induction n with
  | zero =>
    intro j
    have e : Kernel2Ideal.Rounds.soft x 0 (ix2 r j) = 0 := by pointwise [Kernel2Ideal.Rounds.soft]
    rw [e]
    simp [Mask.soft]
  | succ n ih =>
    intro j
    have e : Kernel2Ideal.Rounds.soft x (n + 1) (ix2 r j)
        = Kernel2Ideal.Rounds.soft x n (ix2 r j) + prob0 (weights x n) (ix2 r j) := by
      rw [Kernel2Ideal.Rounds.soft]
      pointwise
    rw [e, ih j, prob0_holds (weights_holds h hu n) (weight_pos tiny_pos hu n) j, ← EReal.coe_add, Mask.soft, Mask.soft,
      Finset.sum_range_succ]

end Soft

theorem first_apply (v : Blk Ideal) (r : Fin 8) : first v (ix2 r 0)
    = (Finset.univ : Finset (Fin 100000)).fold IntOp.minsi 2147483647#32 fun k =>
      Scalar.select (Ideal.cmp .oeq (v (ix2 r k)) (rowMax v (ix2 r 0))) (BitVec.ofNat 32 k.val) 100000#32 := by
  pointwise [first, place]

theorem mark_apply (v : Blk Ideal) (r : Fin 8) (j : Fin 100000) : mark v (ix2 r j)
    = IntOp.cmpi .eq (BitVec.ofNat 32 j.val) (first v (ix2 r 0)) := by
  pointwise [mark, place]

theorem strike_apply (v : Blk Ideal) (r : Fin 8) (j : Fin 100000) : strike v (ix2 r j)
    = Scalar.select (mark v (ix2 r j)) (⊥ : EReal) (v (ix2 r j)) := by
  rw [← bot_word]
  pointwise [strike]

theorem hard_apply (v : Blk Ideal) (n : ℕ) (r : Fin 8) (j : Fin 100000) : hard v (n + 1) (ix2 r j)
    = hard v n (ix2 r j) + ((((mark (left v n) (ix2 r j)).setWidth 32).toInt : ℝ) : EReal) := by
  rw [hard]
  pointwise
  rfl

/-- A row with the places of `S` struck out. -/
def Left (w : Blk Ideal) (r : Fin 8) (u : Fin 100000 → ℝ) (S : Finset (Fin 100000)) : Prop :=
  ∀ j : Fin 100000, w (ix2 r j) = without u S j

variable {S : Finset (Fin 100000)} {p : Fin 100000}

theorem toInt_place (j : Fin 100000) : (BitVec.ofNat 32 j.val).toInt = j.val := by
  have := j.isLt
  rw [BitVec.toInt_eq_toNat_of_lt (by rw [BitVec.toNat_ofNat]; omega), BitVec.toNat_ofNat]
  omega

theorem first_eq (h : Left v r u S) (hp : Best u S p) : first v (ix2 r 0) = BitVec.ofNat 32 p.val := by
  have hm : rowMax v (ix2 r 0) = (u p : EReal) := by
    rw [rowMax_apply, show (fun k => v (ix2 r k)) = without u S from funext h, max_without hp]
  have hsel : ∀ k : Fin 100000, Scalar.select (Ideal.cmp .oeq (v (ix2 r k)) (rowMax v (ix2 r 0))) (BitVec.ofNat 32 k.val)
      100000#32 = if without u S k = (u p : EReal) then BitVec.ofNat 32 k.val else 100000#32 := fun k => by
    rw [hm, h k]
    by_cases e : without u S k = (u p : EReal) <;> simp [Ideal.cmp, Scalar.select, e]
  have hpp : without u S p = (u p : EReal) := by rw [without, if_neg hp.1]
  have hlt := p.isLt
  rw [first_apply, funext hsel, fold_minsi _ _ p]
  · exact if_pos hpp
  · rw [if_pos hpp, toInt_place, show (2147483647#32 : BitVec 32).toInt = 2147483647 by decide]
    omega
  · intro j
    rw [if_pos hpp, toInt_place]
    by_cases e : without u S j = (u p : EReal)
    · rw [if_pos e, toInt_place]
      exact_mod_cast best_le hp e
    · rw [if_neg e, show (100000#32 : BitVec 32).toInt = 100000 by decide]
      omega

theorem mark_eq (h : Left v r u S) (hp : Best u S p) (j : Fin 100000) :
    mark v (ix2 r j) = if j = p then 1#1 else 0#1 := by
  rw [mark_apply, first_eq h hp]
  by_cases e : j = p
  · rw [e, if_pos rfl]
    simp [IntOp.cmpi]
  · have hne : BitVec.ofNat 32 j.val ≠ BitVec.ofNat 32 p.val := fun he => e (Fin.ext (by
      have := congrArg BitVec.toInt he
      rw [toInt_place, toInt_place] at this
      exact_mod_cast this))
    rw [if_neg e]
    simp only [IntOp.cmpi, beq_eq_false_iff_ne.mpr hne]
    rfl

theorem strike_left (h : Left v r u S) (hp : Best u S p) : Left (strike v) r u (insert p S) := fun j => by
  rw [strike_apply, mark_eq h hp, h j]
  by_cases e : j = p
  · have hi : without u (insert p S) j = ⊥ := if_pos (e ▸ Finset.mem_insert_self p S)
    rw [if_pos e, hi]
    rfl
  · have hi : j ∈ insert p S ↔ j ∈ S := by simp [e]
    rw [if_neg e, without, without]
    simp only [hi]
    rfl

variable (h : Holds v r u)
include h

/-- What is left before strike `n`. -/
theorem left_holds (n : ℕ) (hn : n ≤ 100000) : Left (left v n) r u (picked u n) := by
  induction n with
  | zero =>
    intro j
    exact (h j).trans (if_neg (Finset.notMem_empty j)).symm
  | succ n ih => exact strike_left (ih (Nat.le_of_succ_le hn)) (pick_best u (picked_ne u hn))

/-- The marks of the first `n` strikes. -/
theorem hard_holds (n : ℕ) (hn : n ≤ 100000) : Holds (hard v n) r fun j => if j ∈ picked u n then 1 else 0 := by
  induction n with
  | zero =>
    intro j
    have e : (if j ∈ picked u 0 then (1 : ℝ) else 0) = 0 := if_neg (Finset.notMem_empty j)
    beta_reduce
    rw [e, EReal.coe_zero]
    pointwise [hard]
  | succ n ih =>
    intro j
    have hb := pick_best u (picked_ne u hn)
    rw [hard_apply, ih (Nat.le_of_succ_le hn) j, mark_eq (left_holds h n (Nat.le_of_succ_le hn)) hb, ← EReal.coe_add,
      EReal.coe_eq_coe_iff, picked]
    beta_reduce
    by_cases e : j = pick u (picked u n)
    · rw [e, if_neg hb.1, if_pos rfl, if_pos (Finset.mem_insert_self _ _)]
      norm_num
    · have hi : j ∈ insert (pick u (picked u n)) (picked u n) ↔ j ∈ picked u n := by simp [e]
      rw [if_neg e]
      simp only [hi]
      norm_num

end Cert.Kernel2Ideal.Rounds

end
-- ==== Proof.RefHard.lean ====
/-
  The reference of both results: beside the soft selection, the marks of each row's sixteen greatest entries, at the exact
  values those of Pick.lean; and its run, the results written with these names.
-/
module

public import proofs.«01_k».proof.Proof.RefSoft
public import proofs.«01_k».proof.Proof.Pick
public import proofs.«01_k».proof.Proof.Gen.Reference2Ideal.Run
public import Idealize.ShloMosaic.Lib.Routing.OpsSet

@[expose] public section

set_option maxRecDepth 16384

noncomputable section

namespace Cert.Reference2Ideal.Hard

open Idealize.ShloMosaic Idealize.ShloMosaic.TcCoe Idealize.SL.Sem Idealize.ShloMosaic.StableHlo
open Idealize.ShloMosaic.Routing
open Cert.Reference2Ideal Cert.Reference2Ideal.Gen Cert.Reference2Ideal.Value
open Cert.ReferenceIdeal.Rounds (Arr khot Holds)

/-- The second part of a top-k of rows, at one place: the place that a sort of the row, greatest first, puts there. -/
theorem topK_row {α : Type} {A N K : ℕ} (gt : α → α → BitVec 1) (x : (shape2 A N).Idx → α)
    (h : (shape2 A N).Slices (fun _ => 0) (shape2 A K)) (hK : K ≤ N) (r : Fin A) (i : Fin K) :
    (Host.topK (shape2 A K) 1 gt x h).2 (ix2 r i) = BitVec.ofNat 32
      (sortedFrom (fun a b => gt (x (ix2 r a)) (x (ix2 r b)) == 1#1) (i.castLE hK) : Fin N).val := by
  have hd : 1 < (shape2 A N).rank := Nat.lt_succ_self 1
  have hal : ∀ (q : Fin N) (k : Fin ((shape2 A N).size ⟨1, hd⟩)),
      Shape.Idx.along (ix2 r q : (shape2 A N).Idx) ⟨1, hd⟩ k = ix2 r (show Fin N from k) := by
    intro q k
    funext a
    match a with
    | ⟨0, _⟩ => rfl
    | ⟨1, _⟩ => rfl
  have hj : (fun a => ⟨0 + ((ix2 r i : (shape2 A K).Idx) (a.cast h.1.symm)).val,
      Nat.lt_of_lt_of_le (Nat.add_lt_add_left (Fin.isLt _) _) (h.2 a)⟩ : (shape2 A N).Idx) = ix2 r (i.castLE hK) := by
    funext a
    match a with
    | ⟨0, _⟩ => exact Fin.ext (Nat.zero_add _)
    | ⟨1, _⟩ => exact Fin.ext (Nat.zero_add _)
  unfold Host.topK Host.sort2 extractStridedSlice
  simp only [hj]
  rw [dif_pos hd]
  simp only [hal]
  rfl

variable {F : FTy → Type} [FloatOps F]

/-- The places of each row's sixteen greatest entries. -/
def greatest (k : Arr F) : IVec S128x16 32 :=
  (Host.topK S128x16 1 (FloatOps.cmpfTotal .gt) k sliceFits_S128x100000_S128x16).2

/-- Each row's number. -/
def row : IVec S128x1 32 := broadcastInDim S128x1 ![0] bcast_S128_S128x1_0 (iotaInDim S128 32 0)

/-- The rows' numbers, a negative one counted from the end. -/
def rowWrapped : IVec S128x1 32 :=
  select (cmpi .slt row (broadcastInDim S128x1 ![] bcast_S_S128x1 (constantI S_ 32 0#32)))
    (addi row (broadcastInDim S128x1 ![] bcast_S_S128x1 (constantI S_ 32 128#32))) row

/-- Places, a negative one counted from the end. -/
def wrapped (g : IVec S128x16 32) : IVec S128x16 32 :=
  select (cmpi .slt g (broadcastInDim S128x16 ![] bcast_S_S128x16 (constantI S_ 32 0#32)))
    (addi g (broadcastInDim S128x16 ![] bcast_S_S128x16 (constantI S_ 32 100000#32))) g

/-- Row and place, side by side. -/
def pairs (g : IVec S128x16 32) : IVec S128x16x2 32 :=
  concatenate S128x16x2 2 [⟨S128x16x1, broadcastInDim S128x16x1 ![0, 1] bcast_S128x16_S128x16x1_0_1
      (broadcastInDim S128x16 ![0, 1] bcast_S128x1_S128x16_0_1 rowWrapped)⟩,
    ⟨S128x16x1, broadcastInDim S128x16x1 ![0, 1] bcast_S128x16_S128x16x1_0_1 (wrapped g)⟩]
    concatenates_S128x16x1_S128x16x1_S128x16x2_d2

/-- Ones at each row's sixteen greatest entries, zeros elsewhere. -/
def marks (k : Arr F) : Arr F :=
  Host.scatter scatter_S128x100000_S128x16x2_S128x16_n_01_01_2 (fun _ b => b)
    (broadcastInDim S128x100000 ![] bcast_S_S128x100000 (constant S_ .f32 0x00000000#32)) (pairs (greatest k))
    (broadcastInDim S128x16 ![] bcast_S_S128x16 (constant S_ .f32 0x3F800000#32))

/-- The reference's run: its first result is the marks of the soft selection's sixteen greatest, the soft selection taken off
    and added again; its second the soft selection. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v320)
          = addf (subf (marks (khot (m ((c.tc : Thread nD τ).loc main_arg0)) 16)) (khot (m ((c.tc : Thread nD τ).loc main_arg0)) 16))
            (khot (m ((c.tc : Thread nD τ).loc main_arg0)) 16)
      ∧ r.2.mem ((c.tc : Thread nD τ).loc main_v299) = khot (m ((c.tc : Thread nD τ).loc main_arg0)) 16
      ∧ r.2.mem ((c.tc : Thread nD τ).loc main_arg0) = m ((c.tc : Thread nD τ).loc main_arg0) :=
  Value.run m ρ

section AtIdeal

open Cert.Mask Cert.Pick

variable {k : Arr Ideal} {r : Fin 128} {u : Fin 100000 → ℝ}

theorem small_toInt {a : ℕ} (h : a < 2 ^ 31) : (BitVec.ofNat 32 a).toInt = a := by
  rw [BitVec.toInt_eq_toNat_of_lt (by rw [BitVec.toNat_ofNat]; omega), BitVec.toNat_ofNat]
  omega

theorem wrap_small (a : ℕ) (b : BitVec 32) (h : a < 2 ^ 31) :
    Scalar.select (IntOp.cmpi .slt (BitVec.ofNat 32 a) 0#32) b (BitVec.ofNat 32 a) = BitVec.ofNat 32 a :=
  wrap_of_lt _ _ (by rw [BitVec.toNat_ofNat]; omega)

theorem pairs_row (g : IVec S128x16 32) (r : Fin 128) (i : Fin 16) : (pairs g (ValueIdx.ix3 r i 0)).toInt = r.val := by
  have e : pairs g (ValueIdx.ix3 r i 0) = Scalar.select (IntOp.cmpi .slt (BitVec.ofNat 32 r.val) 0#32)
      (IntOp.addi (BitVec.ofNat 32 r.val) 128#32) (BitVec.ofNat 32 r.val) := by
    pointwise [pairs, rowWrapped, row]
  have := r.isLt
  rw [e, wrap_small _ _ (by omega), small_toInt (by omega)]

theorem pairs_place (g : IVec S128x16 32) (r : Fin 128) (i : Fin 16) {p : ℕ} (hp : p < 2 ^ 31)
    (h : g (ix2 r i) = BitVec.ofNat 32 p) : (pairs g (ValueIdx.ix3 r i 1)).toInt = p := by
  have e : pairs g (ValueIdx.ix3 r i 1) = Scalar.select (IntOp.cmpi .slt (g (ix2 r i)) 0#32) (IntOp.addi (g (ix2 r i)) 100000#32) (g (ix2 r i)) := by
    pointwise [pairs, wrapped]
  rw [e, h, wrap_small _ _ hp, small_toInt hp]

/-- The sixteen greatest of a row of real numbers are the first sixteen picks. -/
theorem greatest_holds (h : Holds k r u) (i : Fin 16) : greatest k (ix2 r i) = BitVec.ofNat 32 (pick u (picked u i)).val := by
  have hs := topK_row (FloatOps.cmpfTotal (F := Ideal) (φ := .f32) .gt) k sliceFits_S128x100000_S128x16 (by norm_num) r i
  refine hs.trans ?_
  rw [sorted_eq_pick u _ (fun a b => ?_) (by norm_num) i]
  rw [h a, h b]
  change (Ideal.cmp .ogt (u a : EReal) (u b : EReal) == 1#1) = true ↔ _
  by_cases e : u b < u a <;> simp [Ideal.cmp, e]

theorem marks_holds (h : Holds k r u) : Holds (marks k) r fun j => if j ∈ picked u 16 then 1 else 0 := by
  intro j
  have land : ∀ (a : Fin 128) (i : Fin 16),
      scatter_S128x100000_S128x16x2_S128x16_n_01_01_2.resultIdx? (ix2 a i) (pairs (greatest k)) = some (ix2 r j)
        ↔ a = r ∧ (pairs (greatest k) (ValueIdx.ix3 a i 1)).toInt = j.val := fun a i => by
    refine (scatter_lands2 _ rfl rfl rfl (pairs (greatest k)) a i r j).trans (and_congr_left fun _ => ?_)
    rw [pairs_row]
    exact ⟨fun e => Fin.ext (by exact_mod_cast e), fun e => by rw [e]⟩
  have hit : ∀ i : Fin 16, (pairs (greatest k) (ValueIdx.ix3 r i 1)).toInt = j.val ↔ pick u (picked u i) = j := fun i => by
    have := (pick u (picked u i)).isLt
    rw [pairs_place _ r i (by omega) (greatest_holds h i)]
    exact ⟨fun e => Fin.ext (by exact_mod_cast e), fun e => by rw [e]⟩
  beta_reduce
  by_cases hj : j ∈ picked u 16
  · obtain ⟨s, hs, e⟩ := (mem_picked u).mp hj
    rw [if_pos hj, ← one_word]
    refine scatter_set_hit _ _ _ _ _ _ (fun q _ => ?_) (ix2 r (⟨s, hs⟩ : Fin 16)) ((land r ⟨s, hs⟩).mpr ⟨rfl, (hit ⟨s, hs⟩).mpr e⟩)
    pointwise
  · rw [if_neg hj]
    refine (scatter_set_miss _ _ _ _ _ fun q hq => hj ?_).trans ?_
    · obtain ⟨a, i, rfl⟩ : ∃ (a : Fin 128) (i : Fin 16), q = ix2 a i := ⟨_, _, eq_ix2 q⟩
      obtain ⟨rfl, he⟩ := (land a i).mp hq
      exact (mem_picked u).mpr ⟨i, i.isLt, (hit i).mp he⟩
    · rw [EReal.coe_zero]
      pointwise

end AtIdeal

end Cert.Reference2Ideal.Hard

end
-- ==== Proof.Assembly2.lean ====
/-
  The simpler kernel and the reference of both results meet: what the precondition says of the logits, and the kernel's two
  result arrays block by block.
-/
module

public import proofs.«01_k».proof.Defs
public import proofs.«01_k».proof.Proof.Rows2
public import proofs.«01_k».proof.Proof.RefHard
public import proofs.«01_k».proof.Proof.Gen.Pre_finite
public import Idealize.ShloMosaic.Lib.Pipeline.ValueKit
public import Idealize.ShloMosaic.Lib.Quiescent

@[expose] public section

set_option maxRecDepth 16384

noncomputable section

open Idealize.ShloMosaic Idealize.ShloMosaic.TcCoe Idealize.ShloMosaic.Tactic
open Idealize.SL Idealize.SL.Sem

namespace Cert.BothClaims

/-- The word of the greatest finite number is a real number. -/
theorem bound_word : ∃ b : ℝ, Ideal.ofBits .f32 0x7F7FFFFF#32 = (b : EReal) := by
  simp only [Ideal.ofBits, Ideal.ieee]
  exact ⟨_, rfl⟩

/-- Where the precondition holds, every logit is a real number. -/
theorem logits_real (x : FVec Ideal Cert.Pre_finite.S128x100000 .f32) (h : Cert.Pre_finite.fn (F := Ideal) x = fun _ => 1#1)
    (i : Cert.Pre_finite.S128x100000.Idx) : ∃ l : ℝ, x i = (l : EReal) := by
  obtain ⟨b, hw⟩ := bound_word
  have h1 : Ideal.cmp .ole (max (x i) (-(x i))) (Ideal.ofBits .f32 0x7F7FFFFF#32) = 1#1 := congrFun h i
  have h2 : max (x i) (-(x i)) ≤ (b : EReal) := by
    rw [hw] at h1
    by_contra hc
    simp [Ideal.cmp, hc] at h1
  have real : ∀ e : EReal, max e (-e) ≤ (b : EReal) → ∃ l : ℝ, e = (l : EReal) := fun e he => by
    induction e using EReal.rec with
    | bot => simp at he
    | top => simp at he
    | coe l => exact ⟨l, rfl⟩
  exact real _ h2

variable (m : (ℓ : Loc Cert.Kernel2Ideal.nD Cert.Kernel2Ideal.τ Cert.Kernel2Ideal.sig) → Buf (Elt Ideal) ℓ)

section Kernel

open Cert.Kernel2Ideal Cert.Kernel2Ideal.Gen

/-- Row `r` of the block that point `t` loads is row `8 t + r` of the logits. -/
theorem iblk_row (c : Dev nD) (t : Fin cfg0.N) (r : Fin 8) (R : Fin 128) (hR : R.val = 8 * t.val + r.val) (j : Fin 100000) :
    (iblk m c 0 t : Vec Ideal S8x100000 .f32) (ix2 r j) = m ((c : Thread nD τ).loc main_arg0) (ix2 R j) := by
  have idx : ∀ t : Fin grid0.N, win0_0.index t = ![t.val, 0] := by decide +kernel
  blk_ext [iblk, V, idx t]

/-- Where point `t` writes row `r` of its block of the first result. -/
theorem emb_row (t : Fin cfg0.N) (r : Fin 8) (R : Fin 128) (hR : R.val = 8 * t.val + r.val) (j : Fin 100000) :
    ((win0_1.blk t).view.emb (ix2 r j) : S128x100000.Idx) = ix2 R j := by
  have idx : ∀ t : Fin grid0.N, win0_1.index t = ![t.val, 0] := by decide +kernel
  blk_ext [idx t]

/-- Where point `t` writes row `r` of its block of the second result. -/
theorem emb_row' (t : Fin cfg0.N) (r : Fin 8) (R : Fin 128) (hR : R.val = 8 * t.val + r.val) (j : Fin 100000) :
    ((win0_2.blk t).view.emb (ix2 r j) : S128x100000.Idx) = ix2 R j := by
  have idx : ∀ t : Fin grid0.N, win0_2.index t = ![t.val, 0] := by decide +kernel
  blk_ext [idx t]

/-- On a row of real logits the block's soft selection and the reference's are the same real numbers. -/
theorem row_soft (h : Cert.Pre_Kernel2Ideal_finite m) (c : Dev nD) (t : Fin cfg0.N) (r : Fin 8) (R : Fin 128)
    (hR : R.val = 8 * t.val + r.val) : ∃ u : Fin 100000 → ℝ,
      Cert.KernelIdeal.Rounds.Holds (Cert.Kernel2Ideal.Rounds.soft (iblk m c 0 t) 16) r u
      ∧ Cert.ReferenceIdeal.Rounds.Holds
        (Cert.ReferenceIdeal.Rounds.khot (F := Ideal) (m ((c : Thread nD τ).loc main_arg0)) 16) R u := by
  choose l hl using fun j => logits_real _ (h c) (ix2 R j)
  obtain ⟨M, hM⟩ := Cert.KernelIdeal.Rounds.start_holds (x := iblk m c 0 t) (r := r)
    (fun j => (iblk_row m c t r R hR j).trans (hl j))
  exact ⟨_, Cert.Kernel2Ideal.Rounds.soft_holds hM (fun i => Real.exp_pos _) 16,
    Cert.ReferenceIdeal.Rounds.khot_holds (x := m ((c : Thread nD τ).loc main_arg0)) M hl 16⟩

/-- The marks with the selection taken off and added again, where both are known. -/
theorem pert_apply (s : Shape) (a k : FVec Ideal s .f32) (i : s.Idx) :
    addf (subf a k) k i = (show EReal from a i) - (show EReal from k i) + (show EReal from k i) := rfl

/-- The kernel's first result array. -/
theorem pert_eq (h : Cert.Pre_Kernel2Ideal_finite m) (c : Dev nD) : (dats m 0 c).arrAt 1 cfg0.N
    = addf (subf (Cert.Reference2Ideal.Hard.marks (F := Ideal)
          (Cert.ReferenceIdeal.Rounds.khot (F := Ideal) (m ((c : Thread nD τ).loc main_arg0)) 16))
        (Cert.ReferenceIdeal.Rounds.khot (F := Ideal) (m ((c : Thread nD τ).loc main_arg0)) 16))
      (Cert.ReferenceIdeal.Rounds.khot (F := Ideal) (m ((c : Thread nD τ).loc main_arg0)) 16) := by
  refine (dats m 0 c).arrAt_eq_of_covers 1 _ (by decide +kernel) fun t hf y => ?_
  blk_simp
  rw [after0_1]
  simp only [outsAt0]
  rw [Cert.Kernel2Ideal.Rounds.hard_eq]
  obtain ⟨r, j, rfl⟩ : ∃ (r : Fin 8) (j : Fin 100000), y = ix2 r j := ⟨_, _, eq_ix2 y⟩
  have ht : t.val < 16 := t.isLt
  let R : Fin 128 := ⟨8 * t.val + r.val, by omega⟩
  obtain ⟨u, hk, hr⟩ := row_soft m h c t r R rfl
  have h1 := Cert.Kernel2Ideal.Rounds.hard_holds hk 16 (by norm_num)
  have h2 := Cert.Reference2Ideal.Hard.marks_holds hr
  rw [emb_row t r R rfl j]
  refine (pert_apply _ _ _ _).trans (Eq.trans ?_ (pert_apply _ _ _ _).symm)
  rw [h1 j, h2 j, hk j, hr j]

/-- The kernel's second result array. -/
theorem soft_eq (h : Cert.Pre_Kernel2Ideal_finite m) (c : Dev nD) : (dats m 0 c).arrAt 2 cfg0.N
    = Cert.ReferenceIdeal.Rounds.khot (F := Ideal) (m ((c : Thread nD τ).loc main_arg0)) 16 := by
  refine (dats m 0 c).arrAt_eq_of_covers 2 _ (by decide +kernel) fun t hf y => ?_
  blk_simp
  rw [after0_2]
  simp only [outsAt0]
  rw [Cert.Kernel2Ideal.Rounds.soft_eq]
  obtain ⟨r, j, rfl⟩ : ∃ (r : Fin 8) (j : Fin 100000), y = ix2 r j := ⟨_, _, eq_ix2 y⟩
  have ht : t.val < 16 := t.isLt
  let R : Fin 128 := ⟨8 * t.val + r.val, by omega⟩
  obtain ⟨u, hk, hr⟩ := row_soft m h c t r R rfl
  rw [emb_row' t r R rfl j]
  exact (hk j).trans (hr j).symm

end Kernel

/-- The reference, with what its arguments and semaphores end at. -/
theorem reference_run (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0))
      ∧ r.2.sem = fun _ => 0 :=
  (θ_run Cert.Reference2Ideal.defs _ _).mono
    (fun r h => ⟨fun c => (h c).2.2, sem_eq_zero_of_no_sems (by decide) r.2⟩) (Cert.Reference2Ideal.Hard.run m ρ)

end Cert.BothClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_bounded
public import proofs.«01_k».proof.Proof.Assembly
public import proofs.«01_k».proof.Proof.Gen.Pre_finite
public import proofs.«01_k».proof.Proof.Assembly2
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_bounded.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.SoftClaims.reference_run m ρ,
    fun m ρ _ => Cert.SoftClaims.reference_run m ρ, fun m ρ _ => Cert.Kernel2.Gen.frame m ρ,
    fun m ρ _ => Cert.Kernel2Ideal.Gen.frame m ρ, fun m ρ _ => Cert.Kernel2Ideal.Gen.frame m ρ,
    fun m ρ _ => Cert.BothClaims.reference_run m ρ, fun m ρ _ => Cert.BothClaims.reference_run m ρ, trivial,
    fun m ρ m' ρ' hp ha =>
      ⟨fun c => Cert.ReferenceIdeal.Rounds.khot (F := Ideal) (m ((c.tc : Thread _ _).loc Cert.KernelIdeal.main_arg0)) 16,
        (θ_run Cert.KernelIdeal.defs _ _).mono
          (fun r h c => ⟨(h c).1.trans (Cert.SoftClaims.result_eq m hp c), (h c).2⟩)
          (Cert.KernelIdeal.Value.run_blocks m ρ),
        (θ_run Cert.ReferenceIdeal.defs _ _).mono
          (fun r h c => ⟨(h c).1.trans (by rw [ha c]), (h c).2⟩) (Cert.ReferenceIdeal.Rounds.run m' ρ')⟩,
    trivial, fun m ρ m' ρ' hp ha =>
      ⟨_, _, (θ_run Cert.Kernel2Ideal.defs _ _).mono
          (fun r h c => ⟨(h c).1.trans (Cert.BothClaims.pert_eq m hp c), (h c).2.1.trans (Cert.BothClaims.soft_eq m hp c),
            (h c).2.2⟩)
          (Cert.Kernel2Ideal.Value.run_blocks m ρ),
        (θ_run Cert.Reference2Ideal.defs _ _).mono
          (fun r h c => ⟨(h c).1.trans (by rw [ha c]), (h c).2.1.trans (by rw [ha c]), (h c).2.2⟩)
          (Cert.Reference2Ideal.Hard.run m' ρ')⟩⟩

end Cert.Proof

end
